-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x512 : Shape := ⟨3, ![4, 2048, 512]⟩
abbrev S512 : Shape := ⟨1, ![512]⟩
abbrev S2048x512 : Shape := ⟨2, ![2048, 512]⟩
abbrev S1024x1x4 : Shape := ⟨3, ![1024, 1, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S512x2048 : Shape := ⟨2, ![512, 2048]⟩
abbrev S1024x64 : Shape := ⟨2, ![1024, 64]⟩
abbrev S32x1024 : Shape := ⟨2, ![32, 1024]⟩
abbrev S1024x512 : Shape := ⟨2, ![1024, 512]⟩
abbrev S16x1024 : Shape := ⟨2, ![16, 1024]⟩
abbrev S1024x4 : Shape := ⟨2, ![1024, 4]⟩
abbrev S4x1024 : Shape := ⟨2, ![4, 1024]⟩
abbrev S1x512 : Shape := ⟨2, ![1, 512]⟩
abbrev S1x1024 : Shape := ⟨2, ![1, 1024]⟩
abbrev S2048 : Shape := ⟨1, ![2048]⟩
abbrev S1x2048 : Shape := ⟨2, ![1, 2048]⟩
abbrev S_ : Shape := ⟨0, ![]⟩
abbrev S128 : Shape := ⟨1, ![128]⟩
abbrev S128x1 : Shape := ⟨2, ![128, 1]⟩
abbrev S128x2048 : Shape := ⟨2, ![128, 2048]⟩
abbrev S1x128x512 : Shape := ⟨3, ![1, 128, 512]⟩
abbrev S8x1024 : Shape := ⟨2, ![8, 1024]⟩
abbrev S128x32x1024 : Shape := ⟨3, ![128, 32, 1024]⟩
abbrev S128x16x1024 : Shape := ⟨3, ![128, 16, 1024]⟩
abbrev S128x512 : Shape := ⟨2, ![128, 512]⟩
abbrev S128x1024 : Shape := ⟨2, ![128, 1024]⟩
abbrev S3x1024 : Shape := ⟨2, ![3, 1024]⟩
abbrev S131x1024 : Shape := ⟨2, ![131, 1024]⟩
abbrev S128x64 : Shape := ⟨2, ![128, 64]⟩
abbrev S128x32 : Shape := ⟨2, ![128, 32]⟩
abbrev S128x16 : Shape := ⟨2, ![128, 16]⟩
abbrev S32x1x1024 : Shape := ⟨3, ![32, 1, 1024]⟩
abbrev S1x16x1024 : Shape := ⟨3, ![1, 16, 1024]⟩
abbrev S32x16x1024 : Shape := ⟨3, ![32, 16, 1024]⟩
abbrev S32x16 : Shape := ⟨2, ![32, 16]⟩
abbrev S32x16x1 : Shape := ⟨3, ![32, 16, 1]⟩
abbrev S1x32x1024 : Shape := ⟨3, ![1, 32, 1024]⟩
abbrev S128x128 : Shape := ⟨2, ![128, 128]⟩
abbrev S2048x1024 : Shape := ⟨2, ![2048, 1024]⟩

abbrev nBuf : Space → Nat
  | .hbm => 54
  | .vmem => 20
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S512, .f32⟩
  | .hbm, ⟨3, _⟩ => ⟨S2048x512, .f32⟩
  | .hbm, ⟨4, _⟩ => ⟨S1024x1x4, .f32⟩
  | .hbm, ⟨5, _⟩ => ⟨S1024, .f32⟩
  | .hbm, ⟨6, _⟩ => ⟨S64x1024, .f32⟩
  | .hbm, ⟨7, _⟩ => ⟨S1024x32, .f32⟩
  | .hbm, ⟨8, _⟩ => ⟨S1024, .f32⟩
  | .hbm, ⟨9, _⟩ => ⟨S1024x16, .f32⟩
  | .hbm, ⟨10, _⟩ => ⟨S1024, .f32⟩
  | .hbm, ⟨11, _⟩ => ⟨S512x1024, .f32⟩
  | .hbm, ⟨12, _⟩ => ⟨S512x2048, .f32⟩
  | .hbm, ⟨13, _⟩ => ⟨S512x2048, .bf16⟩
  | .hbm, ⟨14, _⟩ => ⟨S1024x64, .f32⟩
  | .hbm, ⟨15, _⟩ => ⟨S32x1024, .f32⟩
  | .hbm, ⟨16, _⟩ => ⟨S1024x512, .f32⟩
  | .hbm, ⟨17, _⟩ => ⟨S1024x16, .f32⟩
  | .hbm, ⟨18, _⟩ => ⟨S1024x16, .f32⟩
  | .hbm, ⟨19, _⟩ => ⟨S16x1024, .f32⟩
  | .hbm, ⟨20, _⟩ => ⟨S1024x4, .f32⟩
  | .hbm, ⟨21, _⟩ => ⟨S4x1024, .f32⟩
  | .hbm, ⟨22, _⟩ => ⟨S1x512, .f32⟩
  | .hbm, ⟨23, _⟩ => ⟨S1x512, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S2048, .i32⟩
  | .hbm, ⟨28, _⟩ => ⟨S1x2048, .i32⟩
  | .hbm, ⟨29, _⟩ => ⟨S_, .i32⟩
  | .hbm, ⟨30, _⟩ => ⟨S_, .i32⟩
  | .hbm, ⟨31, _⟩ => ⟨S1x2048, .i32⟩
  | .hbm, ⟨32, _⟩ => ⟨S1x2048, .i32⟩
  | .hbm, ⟨33, _⟩ => ⟨S1x2048, .i32⟩
  | .hbm, ⟨34, _⟩ => ⟨S_, .i32⟩
  | .hbm, ⟨35, _⟩ => ⟨S1x2048, .i32⟩
  | .hbm, ⟨36, _⟩ => ⟨S1x2048, .i1⟩
  | .hbm, ⟨37, _⟩ => ⟨S1x2048, .i32⟩
  | .hbm, ⟨38, _⟩ => ⟨S1x2048, .i32⟩
  | .hbm, ⟨39, _⟩ => ⟨S_, .i32⟩
  | .hbm, ⟨40, _⟩ => ⟨S1x2048, .i32⟩
  | .hbm, ⟨41, _⟩ => ⟨S1x2048, .i1⟩
  | .hbm, ⟨42, _⟩ => ⟨S1x2048, .i1⟩
  | .hbm, ⟨43, _⟩ => ⟨S_, .i32⟩
  | .hbm, ⟨44, _⟩ => ⟨S1x2048, .i32⟩
  | .hbm, ⟨45, _⟩ => ⟨S1x2048, .i32⟩
  | .hbm, ⟨46, _⟩ => ⟨S1x2048, .i32⟩
  | .hbm, ⟨47, _⟩ => ⟨S128, .i32⟩
  | .hbm, ⟨48, _⟩ => ⟨S128x1, .i32⟩
  | .hbm, ⟨49, _⟩ => ⟨S128x2048, .i32⟩
  | .hbm, ⟨50, _⟩ => ⟨S128x2048, .i32⟩
  | .hbm, ⟨51, _⟩ => ⟨S128x2048, .i1⟩
  | .hbm, ⟨52, _⟩ => ⟨S128x2048, .f32⟩
  | .hbm, ⟨53, _⟩ => ⟨S4x2048x512, .f32⟩
  | .local _ .vmem, ⟨0, _⟩ => ⟨S1x128x512, .f32⟩
  | .local _ .vmem, ⟨1, _⟩ => ⟨S1x128x512, .f32⟩
  | .local _ .vmem, ⟨2, _⟩ => ⟨S1x512, .f32⟩
  | .local _ .vmem, ⟨3, _⟩ => ⟨S1x512, .f32⟩
  | .local _ .vmem, ⟨4, _⟩ => ⟨S512x2048, .bf16⟩
  | .local _ .vmem, ⟨5, _⟩ => ⟨S4x1024, .f32⟩
  | .local _ .vmem, ⟨6, _⟩ => ⟨S1x1024, .f32⟩
  | .local _ .vmem, ⟨7, _⟩ => ⟨S1024x64, .f32⟩
  | .local _ .vmem, ⟨8, _⟩ => ⟨S32x1024, .f32⟩
  | .local _ .vmem, ⟨9, _⟩ => ⟨S1x1024, .f32⟩
  | .local _ .vmem, ⟨10, _⟩ => ⟨S16x1024, .f32⟩
  | .local _ .vmem, ⟨11, _⟩ => ⟨S1x1024, .f32⟩
  | .local _ .vmem, ⟨12, _⟩ => ⟨S1024x512, .f32⟩
  | .local _ .vmem, ⟨13, _⟩ => ⟨S128x2048, .f32⟩
  | .local _ .vmem, ⟨14, _⟩ => ⟨S1x128x512, .f32⟩
  | .local _ .vmem, ⟨15, _⟩ => ⟨S1x128x512, .f32⟩
  | .local _ .vmem, ⟨16, _⟩ => ⟨S8x1024, .f32⟩
  | .local _ .vmem, ⟨17, _⟩ => ⟨S16x1024, .f32⟩
  | .local _ .vmem, ⟨18, _⟩ => ⟨S128x32x1024, .f32⟩
  | .local _ .vmem, ⟨19, _⟩ => ⟨S128x16x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x2048x512 : Shape := ⟨3, ![4, 2048, 512]⟩
abbrev S512 : Shape := ⟨1, ![512]⟩
abbrev S2048x512 : Shape := ⟨2, ![2048, 512]⟩
abbrev S1024x1x4 : Shape := ⟨3, ![1024, 1, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x2048x2048 : Shape := ⟨3, ![4, 2048, 2048]⟩
abbrev S4x2048x1024 : Shape := ⟨3, ![4, 2048, 1024]⟩
abbrev S4x2051x1024 : Shape := ⟨3, ![4, 2051, 1024]⟩
abbrev S1024x1x1 : Shape := ⟨3, ![1024, 1, 1]⟩
abbrev S1x1x1024 : Shape := ⟨3, ![1, 1, 1024]⟩
abbrev S4x2048x64 : Shape := ⟨3, ![4, 2048, 64]⟩
abbrev S4x2048x32 : Shape := ⟨3, ![4, 2048, 32]⟩
abbrev S4x2048x16 : Shape := ⟨3, ![4, 2048, 16]⟩
abbrev S4x1024x16 : Shape := ⟨3, ![4, 1024, 16]⟩
abbrev S2048x4x1024 : Shape := ⟨3, ![2048, 4, 1024]⟩
abbrev S2048x4x16 : Shape := ⟨3, ![2048, 4, 16]⟩
abbrev S1x4x1024 : Shape := ⟨3, ![1, 4, 1024]⟩
abbrev S4x1024 : Shape := ⟨2, ![4, 1024]⟩
abbrev S1x4x16 : Shape := ⟨3, ![1, 4, 16]⟩
abbrev S4x16 : Shape := ⟨2, ![4, 16]⟩
abbrev S4x1024x1 : Shape := ⟨3, ![4, 1024, 1]⟩
abbrev S1x1024x16 : Shape := ⟨3, ![1, 1024, 16]⟩
abbrev S4x1x16 : Shape := ⟨3, ![4, 1, 16]⟩

abbrev nBuf : Space → Nat
  | .hbm => 187
  | .vmem => 0
  | .smem => 0
  | _ => 0

abbrev hbmTy0_0 (i : Nat) : BufTy := match i % 128 with
  | 0 => ⟨S4x2048x512, .f32⟩
  | 1 => ⟨S512, .f32⟩
  | 2 => ⟨S512, .f32⟩
  | 3 => ⟨S2048x512, .f32⟩
  | 4 => ⟨S1024x1x4, .f32⟩
  | 5 => ⟨S1024, .f32⟩
  | 6 => ⟨S64x1024, .f32⟩
  | 7 => ⟨S1024x32, .f32⟩
  | 8 => ⟨S1024, .f32⟩
  | 9 => ⟨S1024x16, .f32⟩
  | 10 => ⟨S1024, .f32⟩
  | 11 => ⟨S512x1024, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S4x2048x512, .f32⟩
  | 19 => ⟨S4x2048x512, .f32⟩
  | 20 => ⟨S4x2048x512, .f32⟩
  | 21 => ⟨S_, .f32⟩
  | 22 => ⟨S4x2048, .f32⟩
  | 23 => ⟨S4x2048x1, .f32⟩
  | 24 => ⟨S_, .f32⟩
  | 25 => ⟨S4x2048x1, .f32⟩
  | 26 => ⟨S4x2048x1, .f32⟩
  | 27 => ⟨S4x2048x512, .f32⟩
  | 28 => ⟨S4x2048x512, .f32⟩
  | 29 => ⟨S_, .f32⟩
  | 30 => ⟨S4x2048x1, .f32⟩
  | 31 => ⟨S4x2048x1, .f32⟩
  | 32 => ⟨S4x2048x1, .f32⟩
  | 33 => ⟨S4x2048x512, .f32⟩
  | 34 => ⟨S4x2048x512, .f32⟩
  | 35 => ⟨S1x1x512, .f32⟩
  | 36 => ⟨S4x2048x512, .f32⟩
  | 37 => ⟨S4x2048x512, .f32⟩
  | 38 => ⟨S1x1x512, .f32⟩
  | 39 => ⟨S4x2048x512, .f32⟩
  | 40 => ⟨S4x2048x512, .f32⟩
  | 41 => ⟨S4x2048x2048, .f32⟩
  | 42 => ⟨S4x2048x1024, .f32⟩
  | 43 => ⟨S4x2048x1024, .f32⟩
  | 44 => ⟨S_, .i32⟩
  | 45 => ⟨S_, .f32⟩
  | 46 => ⟨S4x2051x1024, .f32⟩
  | 47 => ⟨S4x2048x1024, .f32⟩
  | 48 => ⟨S1024x1x1, .f32⟩
  | 49 => ⟨S1024, .f32⟩
  | 50 => ⟨S1x1x1024, .f32⟩
  | 51 => ⟨S4x2048x1024, .f32⟩
  | 52 => ⟨S4x2048x1024, .f32⟩
  | 53 => ⟨S_, .f32⟩
  | 54 => ⟨S4x2048x1024, .f32⟩
  | 55 => ⟨S4x2048x1024, .f32⟩
  | 56 => ⟨S4x2048x1024, .f32⟩
  | 57 => ⟨S1024x1x1, .f32⟩
  | 58 => ⟨S1024, .f32⟩
  | 59 => ⟨S1x1x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S1024x1x1, .f32⟩
  | 65 => ⟨S1024, .f32⟩
  | 66 => ⟨S1x1x1024, .f32⟩
  | 67 => ⟨S4x2048x1024, .f32⟩
  | 68 => ⟨S4x2048x1024, .f32⟩
  | 69 => ⟨S4x2048x1024, .f32⟩
  | 70 => ⟨S4x2048x1024, .f32⟩
  | 71 => ⟨S1024x1x1, .f32⟩
  | 72 => ⟨S1024, .f32⟩
  | 73 => ⟨S1x1x1024, .f32⟩
  | 74 => ⟨S4x2048x1024, .f32⟩
  | 75 => ⟨S4x2048x1024, .f32⟩
  | 76 => ⟨S4x2048x1024, .f32⟩
  | 77 => ⟨S1x1x1024, .f32⟩
  | 78 => ⟨S4x2048x1024, .f32⟩
  | 79 => ⟨S4x2048x1024, .f32⟩
  | 80 => ⟨S4x2048x1024, .f32⟩
  | 81 => ⟨S4x2048x1024, .f32⟩
  | 82 => ⟨S_, .f32⟩
  | 83 => ⟨S4x2048x1024, .f32⟩
  | 84 => ⟨S4x2048x1024, .f32⟩
  | 85 => ⟨S_, .f32⟩
  | 86 => ⟨S4x2048x1024, .f32⟩
  | 87 => ⟨S4x2048x1024, .f32⟩
  | 88 => ⟨S4x2048x1024, .f32⟩
  | 89 => ⟨S4x2048x64, .f32⟩
  | 90 => ⟨S4x2048x32, .f32⟩
  | 91 => ⟨S4x2048x16, .f32⟩
  | 92 => ⟨S4x2048x16, .f32⟩
  | 93 => ⟨S4x2048x1024, .f32⟩
  | 94 => ⟨S1x1x1024, .f32⟩
  | 95 => ⟨S4x2048x1024, .f32⟩
  | 96 => ⟨S4x2048x1024, .f32⟩
  | 97 => ⟨S_, .f32⟩
  | 98 => ⟨S4x2048x1024, .f32⟩
  | 99 => ⟨S4x2048x1024, .f32⟩
  | 100 => ⟨S4x2048x1024, .f32⟩
  | 101 => ⟨S4x2048x1024, .f32⟩
  | 102 => ⟨S4x2048x1024, .i1⟩
  | 103 => ⟨S4x2048x1024, .f32⟩
  | 104 => ⟨S4x2048x1024, .f32⟩
  | 105 => ⟨S4x2048x1024, .f32⟩
  | 106 => ⟨S4x2048x1024, .f32⟩
  | 107 => ⟨S4x2048x1024, .f32⟩
  | 108 => ⟨S4x2048x1024, .f32⟩
  | 109 => ⟨S4x2048x1024, .f32⟩
  | 110 => ⟨S4x2048x1024, .f32⟩
  | 111 => ⟨S1024x16, .f32⟩
  | 112 => ⟨S1024x16, .f32⟩
  | 113 => ⟨S_, .f32⟩
  | 114 => ⟨S4x1024x16, .f32⟩
  | 115 => ⟨S2048x4x1024, .f32⟩
  | 116 => ⟨S2048x4x16, .f32⟩
  | 117 => ⟨S2048x4x16, .f32⟩
  | 118 => ⟨S2048x4x1024, .f32⟩
  | 119 => ⟨S_, .f32⟩
  | 120 => ⟨S2048x4x1024, .f32⟩
  | 121 => ⟨S_, .i32⟩
  | 122 => ⟨S2048x4x1024, .f32⟩
  | 123 => ⟨S2048x4x16, .f32⟩
  | 124 => ⟨S2048x4x16, .f32⟩
  | 125 => ⟨S2048x4x1024, .f32⟩
  | 126 => ⟨S1024x16, .f32⟩
  | 127 => ⟨S_, .i32⟩
  | _ => ⟨S4x2048x512, .f32⟩

abbrev hbmTy0_1 (i : Nat) : BufTy := match i % 128 with
  | 0 => ⟨S4x1024x16, .f32⟩
  | 1 => ⟨S2048x4x1024, .f32⟩
  | 2 => ⟨S_, .i32⟩
  | 3 => ⟨S_, .i1⟩
  | 4 => ⟨S_, .i32⟩
  | 5 => ⟨S_, .i32⟩
  | 6 => ⟨S1x4x1024, .f32⟩
  | 7 => ⟨S4x1024, .f32⟩
  | 8 => ⟨S_, .i32⟩
  | 9 => ⟨S_, .i32⟩
  | 10 => ⟨S1x4x16, .f32⟩
  | 11 => ⟨S4x16, .f32⟩
  | 12 => ⟨S_, .i32⟩
  | 13 => ⟨S_, .i32⟩
  | 14 => ⟨S1x4x16, .f32⟩
  | 15 => ⟨S4x16, .f32⟩
  | 16 => ⟨S_, .i32⟩
  | 17 => ⟨S_, .i32⟩
  | 18 => ⟨S1x4x1024, .f32⟩
  | 19 => ⟨S4x1024, .f32⟩
  | 20 => ⟨S4x1024x1, .f32⟩
  | 21 => ⟨S1x1024x16, .f32⟩
  | 22 => ⟨S4x1024x16, .f32⟩
  | 23 => ⟨S4x1024x16, .f32⟩
  | 24 => ⟨S4x1024x16, .f32⟩
  | 25 => ⟨S4x1024x16, .f32⟩
  | 26 => ⟨S4x1024x16, .f32⟩
  | 27 => ⟨S4x1024x1, .f32⟩
  | 28 => ⟨S4x1x16, .f32⟩
  | 29 => ⟨S4x1024x16, .f32⟩
  | 30 => ⟨S4x1024x16, .f32⟩
  | 31 => ⟨S4x1024x16, .f32⟩
  | 32 => ⟨S4x1024x1, .f32⟩
  | 33 => ⟨S4x1024x16, .f32⟩
  | 34 => ⟨S4x1024x16, .f32⟩
  | 35 => ⟨S4x1024x16, .f32⟩
  | 36 => ⟨S4x1024, .f32⟩
  | 37 => ⟨S1x4x1024, .f32⟩
  | 38 => ⟨S_, .i32⟩
  | 39 => ⟨S_, .i32⟩
  | 40 => ⟨S2048x4x1024, .f32⟩
  | 41 => ⟨S_, .i32⟩
  | 42 => ⟨S_, .i32⟩
  | 43 => ⟨S4x2048x1024, .f32⟩
  | 44 => ⟨S1x1x1024, .f32⟩
  | 45 => ⟨S4x2048x1024, .f32⟩
  | 46 => ⟨S4x2048x1024, .f32⟩
  | 47 => ⟨S4x2048x1024, .f32⟩
  | 48 => ⟨S4x2048x1024, .f32⟩
  | 49 => ⟨S4x2048x1024, .f32⟩
  | 50 => ⟨S_, .f32⟩
  | 51 => ⟨S4x2048x1024, .f32⟩
  | 52 => ⟨S4x2048x1024, .f32⟩
  | 53 => ⟨S_, .f32⟩
  | 54 => ⟨S4x2048x1024, .f32⟩
  | 55 => ⟨S4x2048x1024, .f32⟩
  | 56 => ⟨S4x2048x1024, .f32⟩
  | 57 => ⟨S4x2048x1024, .f32⟩
  | 58 => ⟨S4x2048x512, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call0_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_5 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_6 : Ref sig .tc := ⟨.hbm, 119, rfl⟩
abbrev main_v77 : Ref sig .tc := ⟨.hbm, 120, rfl⟩
abbrev main_c_7 : Ref sig .tc := ⟨.hbm, 121, rfl⟩
abbrev main_v78_0 : Ref sig .tc := ⟨.hbm, 122, rfl⟩
abbrev main_v78_1 : Ref sig .tc := ⟨.hbm, 123, rfl⟩
abbrev main_v78_2 : Ref sig .tc := ⟨.hbm, 124, rfl⟩
abbrev main_v78_3 : Ref sig .tc := ⟨.hbm, 125, rfl⟩
abbrev main_v78_4 : Ref sig .tc := ⟨.hbm, 126, rfl⟩
abbrev main_v78_5 : Ref sig .tc := ⟨.hbm, 127, rfl⟩
abbrev main_v78_6 : Ref sig .tc := ⟨.hbm, 128, rfl⟩
abbrev main_v78_7 : Ref sig .tc := ⟨.hbm, 129, rfl⟩
abbrev main_while0c_c_15 : Ref sig .tc := ⟨.hbm, 130, rfl⟩
abbrev main_while0c_v87 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_call3_v0 : Ref sig .tc := ⟨.hbm, 134, rfl⟩
abbrev main_while0b_v87 : Ref sig .tc := ⟨.hbm, 135, rfl⟩
abbrev main_while0b_call4_c : Ref sig .tc := ⟨.hbm, 136, rfl⟩
abbrev main_while0b_call4_c_0 : Ref sig .tc := ⟨.hbm, 137, rfl⟩
abbrev main_while0b_call4_v0 : Ref sig .tc := ⟨.hbm, 138, rfl⟩
abbrev main_while0b_v88 : Ref sig .tc := ⟨.hbm, 139, rfl⟩
abbrev main_while0b_call5_c : Ref sig .tc := ⟨.hbm, 140, rfl⟩
abbrev main_while0b_call5_c_0 : Ref sig .tc := ⟨.hbm, 141, rfl⟩
abbrev main_while0b_call5_v0 : Ref sig .tc := ⟨.hbm, 142, rfl⟩
abbrev main_while0b_v89 : Ref sig .tc := ⟨.hbm, 143, rfl⟩
abbrev main_while0b_call6_c : Ref sig .tc := ⟨.hbm, 144, rfl⟩
abbrev main_while0b_call6_c_0 : Ref sig .tc := ⟨.hbm, 145, rfl⟩
abbrev main_while0b_call6_v0 : Ref sig .tc := ⟨.hbm, 146, rfl⟩
abbrev main_while0b_v90 : Ref sig .tc := ⟨.hbm, 147, rfl⟩
abbrev main_while0b_v91 : Ref sig .tc := ⟨.hbm, 148, rfl⟩
abbrev main_while0b_v92 : Ref sig .tc := ⟨.hbm, 149, rfl⟩
abbrev main_while0b_v93 : Ref sig .tc := ⟨.hbm, 150, rfl⟩
abbrev main_while0b_v94 : Ref sig .tc := ⟨.hbm, 151, rfl⟩
abbrev main_while0b_v95 : Ref sig .tc := ⟨.hbm, 152, rfl⟩
abbrev main_while0b_v96 : Ref sig .tc := ⟨.hbm, 153, rfl⟩
abbrev main_while0b_v97 : Ref sig .tc := ⟨.hbm, 154, rfl⟩
abbrev main_while0b_v98 : Ref sig .tc := ⟨.hbm, 155, rfl⟩
abbrev main_while0b_v99 : Ref sig .tc := ⟨.hbm, 156, rfl⟩
abbrev main_while0b_v100 : Ref sig .tc := ⟨.hbm, 157, rfl⟩
abbrev main_while0b_v101 : Ref sig .tc := ⟨.hbm, 158, rfl⟩
abbrev main_while0b_v102 : Ref sig .tc := ⟨.hbm, 159, rfl⟩
abbrev main_while0b_v103 : Ref sig .tc := ⟨.hbm, 160, rfl⟩
abbrev main_while0b_v104 : Ref sig .tc := ⟨.hbm, 161, rfl⟩
abbrev main_while0b_v105 : Ref sig .tc := ⟨.hbm, 162, rfl⟩
abbrev main_while0b_v106 : Ref sig .tc := ⟨.hbm, 163, rfl⟩
abbrev main_while0b_v107 : Ref sig .tc := ⟨.hbm, 164, rfl⟩
abbrev main_while0b_call7_v0 : Ref sig .tc := ⟨.hbm, 165, rfl⟩
abbrev main_while0b_call7_c : Ref sig .tc := ⟨.hbm, 166, rfl⟩
abbrev main_while0b_call7_c_0 : Ref sig .tc := ⟨.hbm, 167, rfl⟩
abbrev main_while0b_v108 : Ref sig .tc := ⟨.hbm, 168, rfl⟩
abbrev main_while0b_c_15 : Ref sig .tc := ⟨.hbm, 169, rfl⟩
abbrev main_while0b_v109 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_call8_v0 : Ref sig .tc := ⟨.hbm, 176, rfl⟩
abbrev main_call8_v1 : Ref sig .tc := ⟨.hbm, 177, rfl⟩
abbrev main_call8_cst : Ref sig .tc := ⟨.hbm, 178, rfl⟩
abbrev main_call8_v2 : Ref sig .tc := ⟨.hbm, 179, rfl⟩
abbrev main_call8_v3 : Ref sig .tc := ⟨.hbm, 180, rfl⟩
abbrev main_call8_cst_0 : Ref sig .tc := ⟨.hbm, 181, rfl⟩
abbrev main_call8_v4 : Ref sig .tc := ⟨.hbm, 182, rfl⟩
abbrev main_call8_v5 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩

abbrev nD : Nat := 1
abbrev τ : Topo := Topo.v7x

variable {F : FTy → Type} [FloatOps F]

abbrev main_while0_count : Scf.Loop 32 := ⟨0#32, 2048#32, 1#32⟩
-- ==== Proof.Spec.lean ====
/-
  WHAT THE LAYER COMPUTES, written over extended reals by coordinates and with no array in it.

  `Layer` holds the weights as functions of natural numbers, `x : ℕ → ℕ → EReal` is ONE batch member's input (time step,
  feature). Each definition below is one line of the layer's mathematics; both programs are shown to compute `Layer.out`.
-/
module

public import Idealize.ShloMosaic.PureOps.Ideal

@[expose] public section

noncomputable section

namespace Mamba

open Idealize.ShloMosaic

/-- The weights of one layer, by coordinates. -/
structure Layer where
  /-- scale of the normalization -/
  gamma : ℕ → EReal
  /-- shift of the normalization -/
  beta : ℕ → EReal
  /-- input projection: (output feature, input feature) -/
  win : ℕ → ℕ → EReal
  /-- depthwise convolution: (channel, tap) -/
  cw : ℕ → ℕ → EReal
  /-- shift of the convolution -/
  cb : ℕ → EReal
  /-- projection to step, input and output vectors: (output, channel) -/
  wx : ℕ → ℕ → EReal
  /-- step projection: (channel, rank) -/
  wdt : ℕ → ℕ → EReal
  /-- shift of the step -/
  bdt : ℕ → EReal
  /-- logarithm of the decay rates: (channel, state) -/
  alog : ℕ → ℕ → EReal
  /-- skip connection -/
  dp : ℕ → EReal
  /-- output projection: (output feature, channel) -/
  wout : ℕ → ℕ → EReal

/-- The row length 512 as the literal both programs divide by. -/
abbrev c512 : EReal := Ideal.ofBits .f32 0x44000000#32
/-- The small number added to the variance, as the literal both programs add. -/
abbrev ceps : EReal := Ideal.ofBits .f32 0x3727C5AC#32
/-- `v` times its logistic. -/
def silu (v : EReal) : EReal := v * Ideal.div 1 (1 + Ideal.exp (-v))

/-- `log (1 + exp v)` in the form that does not overflow. -/
def softplus (v : EReal) : EReal := max v 0 + Ideal.log1p (Ideal.exp (-(max v (-v))))

/-- The mean of a row. -/
def mean (r : ℕ → EReal) : EReal := Ideal.div (∑ k : Fin 512, r k) c512

/-- The mean squared distance of a row from its mean. -/
def variance (r : ℕ → EReal) : EReal := Ideal.div (∑ k : Fin 512, (r k - mean r) * (r k - mean r)) c512

namespace Layer

variable (W : Layer) (x : ℕ → ℕ → EReal)

/-- The normalized row. -/
def norm (r : ℕ → EReal) (d : ℕ) : EReal :=
  (r d - mean r) * Ideal.rsqrt (variance r + ceps) * W.gamma d + W.beta d

/-- The input projection of the normalized row. -/
def xz (r : ℕ → EReal) (e : ℕ) : EReal := ∑ d : Fin 512, W.norm r d * W.win e d

/-- The convolution's input with three zero rows put before it. -/
def padded (j d : ℕ) : EReal := if j < 3 then 0 else W.xz (x (j - 3)) d

/-- The gate's input. -/
def gate (l d : ℕ) : EReal := W.xz (x l) (1024 + d)

/-- The causal convolution of four taps. -/
def conv (l d : ℕ) : EReal :=
  W.cb d + W.padded x l d * W.cw d 0 + W.padded x (1 + l) d * W.cw d 1 + W.padded x (2 + l) d * W.cw d 2
    + W.padded x (3 + l) d * W.cw d 3

/-- The channels that enter the recurrence. -/
def chan (l d : ℕ) : EReal := silu (W.conv x l d)

/-- The projection to step (32), input vector (16) and output vector (16). -/
def proj (l e : ℕ) : EReal := ∑ d : Fin 1024, W.chan x l d * W.wx e d

/-- The time step of a channel. -/
def dt (l d : ℕ) : EReal := softplus ((∑ r : Fin 32, W.proj x l r * W.wdt d r) + W.bdt d)

/-- The decay of one state over one step. -/
def decay (l s d : ℕ) : EReal := Ideal.exp (W.dt x l d * -(Ideal.exp (W.alog d s)))

/-- What one step adds to one state. -/
def drive (l s d : ℕ) : EReal := W.proj x l (32 + s) * (W.dt x l d * W.chan x l d)

/-- The state before step `l`. -/
def state : ℕ → ℕ → ℕ → EReal
  | 0, _, _ => 0
  | l + 1, s, d => state l s d * W.decay x l s d + W.drive x l s d

/-- The recurrence's output. -/
def read (l d : ℕ) : EReal := ∑ s : Fin 16, W.state x (l + 1) s d * W.proj x l (48 + s)

/-- The gated output before the last projection. -/
def gated (l d : ℕ) : EReal := (W.read x l d + W.chan x l d * W.dp d) * silu (W.gate x l d)

/-- The layer's output. -/
def out (l o : ℕ) : EReal := ∑ d : Fin 1024, W.gated x l d * W.wout o d

end Layer

end Mamba

end
-- ==== Proof.Chunk.lean ====
/-
  One call of the kernel's body (128 time steps of one batch member), as a function of the arrays it
  loads. Every payload is the kernel's own printed one; what is added here is the shape of the scan: the state after
  `n` steps by recursion on `n`, and the two lists of stores (the coefficient array and the array of states).
-/
module

public import proofs.«01_k».proof.Proof.Spec
public import proofs.«01_k».proof.Proof.Gen.KernelIdeal.Frame
public import Idealize.ShloMosaic.Lib.Pipeline.Value

@[expose] public section

set_option maxRecDepth 16384

noncomputable section

namespace Mamba

open Cert.KernelIdeal Cert.KernelIdeal.Gen Idealize.ShloMosaic Idealize.ShloMosaic.TcCoe

variable {F : FTy → Type} [FloatOps F] [Named F]

/-- The arrays one call loads: the block of `x`, the weights, the three carried rows and the carried state. -/
structure Loads (F : FTy → Type) where
  /-- the 128 rows of the input -/
  x : Vec F S1x128x512 .f32
  /-- layernorm scale -/
  gamma : Vec F S1x512 .f32
  /-- layernorm shift -/
  beta : Vec F S1x512 .f32
  /-- input projection, feature by channel -/
  win : Vec F S512x2048 .bf16
  /-- the three rows before this block -/
  tail : Vec F S3x1024 .f32
  /-- convolution bias -/
  cb : Vec F S1x1024 .f32
  /-- convolution tap 0 -/
  w0 : Vec F S1x1024 .f32
  /-- convolution tap 1 -/
  w1 : Vec F S1x1024 .f32
  /-- convolution tap 2 -/
  w2 : Vec F S1x1024 .f32
  /-- convolution tap 3 -/
  w3 : Vec F S1x1024 .f32
  /-- projection to step size, B and C -/
  wx : Vec F S1024x64 .f32
  /-- step-size projection -/
  wdt : Vec F S32x1024 .f32
  /-- step-size bias -/
  bdt : Vec F S1x1024 .f32
  /-- the state matrix, already exponentiated and negated by the host -/
  an : Vec F S16x1024 .f32
  /-- the skip weights -/
  dp : Vec F S1x1024 .f32
  /-- output projection -/
  wout : Vec F S1024x512 .f32
  /-- the 0/1 matrix that picks each time step's own 16 state rows -/
  pick : Vec F S128x2048 .f32
  /-- the state before the block's first step -/
  h : Vec F S16x1024 .f32

namespace Loads

variable (L : Loads F)

/-- The block's channels after convolution and silu. -/
def chan : FVec F S128x1024 .f32 := k0_pay10 (k0_pay7 L.x L.gamma L.beta L.win L.tail) L.cb L.w0 L.w1 L.w2 L.w3

/-- The zero accumulator of the second projection. -/
def zacc : FVec F S128x64 .f32 := constant S128x64 .f32 0x00000000#32

/-- The columns read as B. -/
def bcol : FVec F S128x16 .f32 := k0_pay13 L.chan (k0_pay11 L.wx) zacc

/-- The step sizes. -/
def dtv : FVec F S128x1024 .f32 := k0_pay15 L.chan (k0_pay11 L.wx) zacc L.wdt L.bdt

/-- Step size times channel. -/
def dtx : FVec F S128x1024 .f32 := k0_pay16 L.chan (k0_pay11 L.wx) zacc L.wdt L.bdt

/-- The eight stores of the coefficient array, last first: rows `0..15` the decays, rows `16..31` the drives. -/
def coefs : List (View.Piece (Elt F) S128x32x1024 .f32) :=
  [⟨Rect.unit ![96, 16, 0] S32x16x1024.size inb_S128x32x1024_S32x16x1024_96_16_0, k0_pay27 L.bcol L.dtx⟩,
   ⟨Rect.unit ![96, 0, 0] S32x16x1024.size inb_S128x32x1024_S32x16x1024_96_0_0, k0_pay26 (k0_pay17 L.an) (k0_pay25 L.dtv)⟩,
   ⟨Rect.unit ![64, 16, 0] S32x16x1024.size inb_S128x32x1024_S32x16x1024_64_16_0, k0_pay24 L.bcol L.dtx⟩,
   ⟨Rect.unit ![64, 0, 0] S32x16x1024.size inb_S128x32x1024_S32x16x1024_64_0_0, k0_pay23 L.dtv (k0_pay17 L.an)⟩,
   ⟨Rect.unit ![32, 16, 0] S32x16x1024.size inb_S128x32x1024_S32x16x1024_32_16_0, k0_pay22 L.bcol L.dtx⟩,
   ⟨Rect.unit ![32, 0, 0] S32x16x1024.size inb_S128x32x1024_S32x16x1024_32_0_0, k0_pay21 L.dtv (k0_pay17 L.an)⟩,
   ⟨Rect.unit ![0, 16, 0] S32x16x1024.size inb_S128x32x1024_S32x16x1024_0_16_0, k0_pay20 (k0_pay19 L.chan (k0_pay11 L.wx) zacc L.wdt L.bdt)⟩,
   ⟨Rect.unit ![0, 0, 0] S32x16x1024.size inb_S128x32x1024_S32x16x1024_0_0_0, k0_pay18 L.chan (k0_pay11 L.wx) zacc L.wdt L.bdt L.an⟩]

end Loads

/-- One step of the scan: the state times the decays, plus the drives. -/
def step (h : FVec F S16x1024 .f32) (ab : Vec F S1x32x1024 .f32) : FVec F S16x1024 .f32 :=
  addf (mulf h (extractStridedSlice S16x1024 ![0, 0] (shapeCast S32x1024 ab shapeCasts_S1x32x1024_S32x1024 : FVec F S32x1024 .f32)
      slices_S32x1024_o0_0_S16x1024))
    (extractStridedSlice S16x1024 ![16, 0] (shapeCast S32x1024 ab shapeCasts_S1x32x1024_S32x1024 : FVec F S32x1024 .f32)
      slices_S32x1024_o16_0_S16x1024)

/-- The state after `n` steps from `h`, step `t` reading the coefficients `ab t`. -/
def hist (h : FVec F S16x1024 .f32) (ab : Fin 128 → Vec F S1x32x1024 .f32) : (n : ℕ) → n ≤ 128 → FVec F S16x1024 .f32
  | 0, _ => h
  | n + 1, hn => step (hist h ab n (Nat.le_of_succ_le hn)) (ab ⟨n, hn⟩)

/-- Row `n` of an array of `128` states lies inside it. -/
theorem row_inb (n : ℕ) (hn : n < 128) :
    ∀ a, (![n, 0, 0] : Fin 3 → ℕ) a + S1x16x1024.size a ≤ S128x16x1024.size a := by
  intro a; fin_cases a <;> simp [S1x16x1024, S128x16x1024] <;> omega

/-- Row `n` of the coefficient array lies inside it. -/
theorem coef_inb (n : ℕ) (hn : n < 128) :
    ∀ a, (![n, 0, 0] : Fin 3 → ℕ) a + S1x32x1024.size a ≤ S128x32x1024.size a := by
  intro a; fin_cases a <;> simp [S1x32x1024, S128x32x1024] <;> omega

/-- The stores of the first `n` states, last first: state `t + 1` in row `t`. -/
def states (h : FVec F S16x1024 .f32) (ab : Fin 128 → Vec F S1x32x1024 .f32) :
    (n : ℕ) → n ≤ 128 → List (View.Piece (Elt F) S128x16x1024 .f32)
  | 0, _ => []
  | n + 1, hn => ⟨Rect.unit ![n, 0, 0] S1x16x1024.size (row_inb n hn),
      (shapeCast S1x16x1024 (hist h ab (n + 1) hn) shapeCasts_S16x1024_S1x16x1024 : FVec F S1x16x1024 .f32)⟩ ::
      states h ab n (Nat.le_of_succ_le hn)

/-- The coefficient row of step `t`, read back from the stores `P`. -/
def coefRow {sp : Space} (v : View sig .tc sp S128x32x1024 .f32) (P : List (View.Piece (Elt F) S128x32x1024 .f32))
    (t : Fin 128) : Vec F S1x32x1024 .f32 :=
  v.readCov P (Rect.unit (s := S128x32x1024) ![t.val, 0, 0] S1x32x1024.size (coef_inb t.val t.isLt)).toLoadRect

namespace Loads

variable (L : Loads F)

/-- The state after `n` of the block's steps, the coefficients read back through the view `v`. -/
def state {sp : Space} (v : View sig .tc sp S128x32x1024 .f32) (n : ℕ) (hn : n ≤ 128) : FVec F S16x1024 .f32 :=
  hist L.h (coefRow v L.coefs) n hn

/-- All 128 states, read back through the view `u` they were stored through. -/
def all {sp sq : Space} (v : View sig .tc sp S128x32x1024 .f32) (u : View sig .tc sq S128x16x1024 .f32) :
    Vec F S128x16x1024 .f32 :=
  u.readCov (states L.h (coefRow v L.coefs) 128 le_rfl)
    (Rect.unit (s := S128x16x1024) ![0, 0, 0] S128x16x1024.size inb_S128x16x1024_S128x16x1024_0_0_0).toLoadRect

/-- The columns read as C. -/
def ccol : FVec F S128x16 .f32 := k0_pay14 L.chan (k0_pay11 L.wx) zacc

/-- The block's output rows. -/
def rows {sp sq : Space} (v : View sig .tc sp S128x32x1024 .f32) (u : View sig .tc sq S128x16x1024 .f32) :
    FVec F S1x128x512 .f32 :=
  k0_pay1 (k0_pay302 (k0_pay6 L.x L.gamma L.beta L.win) L.chan (k0_pay301 L.ccol L.pick (L.all v u)) L.dp)
    (k0_pay303 L.wout) (constant S128x512 .f32 0x00000000#32)

/-- The three rows handed to the next block. -/
def newTail : FVec F S3x1024 .f32 := k0_pay9 (k0_pay8 L.x L.gamma L.beta L.win)

end Loads

end Mamba
-- ==== Proof.Stores.lean ====
/-
  What the kernel's body stores, in terms of what it loads: on a call that continues a sequence (`runB_eq`) and on a
  call that begins one (`runA_eq`). Both sides are the printed body's own operations, so each is by unfolding.
-/
module

public import proofs.«01_k».proof.Proof.Chunk

@[expose] public section

set_option maxRecDepth 16384

noncomputable section

namespace Mamba

open Cert.KernelIdeal Cert.KernelIdeal.Gen Idealize.ShloMosaic Idealize.ShloMosaic.TcCoe

variable {F : FTy → Type} [FloatOps F] [Named F]

variable (c : Dev nD) (i : grid0.Coords)
    (arg2 : Memref sig .tc .vmem S1x128x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S512x2048 .bf16) (harg5 : arg5.IsWhole)
    (arg6 : Memref sig .tc .vmem S4x1024 .f32) (harg6 : arg6.IsWhole)
    (arg7 : Memref sig .tc .vmem S1x1024 .f32) (harg7 : arg7.IsWhole)
    (arg8 : Memref sig .tc .vmem S1024x64 .f32) (harg8 : arg8.IsWhole)
    (arg9 : Memref sig .tc .vmem S32x1024 .f32) (harg9 : arg9.IsWhole)
    (arg10 : Memref sig .tc .vmem S1x1024 .f32) (harg10 : arg10.IsWhole)
    (arg11 : Memref sig .tc .vmem S16x1024 .f32) (harg11 : arg11.IsWhole)
    (arg12 : Memref sig .tc .vmem S1x1024 .f32) (harg12 : arg12.IsWhole)
    (arg13 : Memref sig .tc .vmem S1024x512 .f32) (harg13 : arg13.IsWhole)
    (arg14 : Memref sig .tc .vmem S128x2048 .f32) (harg14 : arg14.IsWhole)
    (arg15 : Memref sig .tc .vmem S1x128x512 .f32) (harg15 : arg15.IsWhole)
    (arg16 : Memref sig .tc .vmem S8x1024 .f32) (harg16 : arg16.IsWhole)
    (arg17 : Memref sig .tc .vmem S16x1024 .f32) (harg17 : arg17.IsWhole)
    (arg18 : Memref sig .tc .vmem S128x32x1024 .f32) (harg18 : arg18.IsWhole)
    (arg19 : Memref sig .tc .vmem S128x16x1024 .f32) (harg19 : arg19.IsWhole)
    (x0 : Vec F S1x128x512 .f32) (x1 : Vec F S1x512 .f32) (x2 : Vec F S1x512 .f32) (x3 : Vec F S512x2048 .bf16) (x4 : Vec F S4x1024 .f32)
    (x5 : Vec F S1x1024 .f32) (x6 : Vec F S1024x64 .f32) (x7 : Vec F S32x1024 .f32) (x8 : Vec F S1x1024 .f32) (x9 : Vec F S16x1024 .f32)
    (x10 : Vec F S1x1024 .f32) (x11 : Vec F S1024x512 .f32) (x12 : Vec F S128x2048 .f32)

/-- The loads of one call: the input windows at their contents `x0 … x12`, with the three earlier rows and the state
    given. -/
def loadsOf (tail : Vec F S3x1024 .f32) (h : Vec F S16x1024 .f32) : Loads F where
  x := View.readAt (Elt F) arg2.view (Rect.unit (s := S1x128x512) ![0, 0, 0] S1x128x512.size inb_S1x128x512_S1x128x512_0_0_0).toLoadRect (harg2.unread x0)
  gamma := View.readAt (Elt F) arg3.view (Rect.unit (s := S1x512) ![0, 0] S1x512.size inb_S1x512_S1x512_0_0).toLoadRect (harg3.unread x1)
  beta := View.readAt (Elt F) arg4.view (Rect.unit (s := S1x512) ![0, 0] S1x512.size inb_S1x512_S1x512_0_0).toLoadRect (harg4.unread x2)
  win := View.readAt (Elt F) arg5.view (Rect.unit (s := S512x2048) ![0, 0] S512x2048.size inb_S512x2048_S512x2048_0_0).toLoadRect (harg5.unread x3)
  cb := View.readAt (Elt F) arg7.view (Rect.unit (s := S1x1024) ![0, 0] S1x1024.size inb_S1x1024_S1x1024_0_0).toLoadRect (harg7.unread x5)
  wx := View.readAt (Elt F) arg8.view (Rect.unit (s := S1024x64) ![0, 0] S1024x64.size inb_S1024x64_S1024x64_0_0).toLoadRect (harg8.unread x6)
  wdt := View.readAt (Elt F) arg9.view (Rect.unit (s := S32x1024) ![0, 0] S32x1024.size inb_S32x1024_S32x1024_0_0).toLoadRect (harg9.unread x7)
  bdt := View.readAt (Elt F) arg10.view (Rect.unit (s := S1x1024) ![0, 0] S1x1024.size inb_S1x1024_S1x1024_0_0).toLoadRect (harg10.unread x8)
  an := View.readAt (Elt F) arg11.view (Rect.unit (s := S16x1024) ![0, 0] S16x1024.size inb_S16x1024_S16x1024_0_0).toLoadRect (harg11.unread x9)
  dp := View.readAt (Elt F) arg12.view (Rect.unit (s := S1x1024) ![0, 0] S1x1024.size inb_S1x1024_S1x1024_0_0).toLoadRect (harg12.unread x10)
  wout := View.readAt (Elt F) arg13.view (Rect.unit (s := S1024x512) ![0, 0] S1024x512.size inb_S1024x512_S1024x512_0_0).toLoadRect (harg13.unread x11)
  pick := View.readAt (Elt F) arg14.view (Rect.unit (s := S128x2048) ![0, 0] S128x2048.size inb_S128x2048_S128x2048_0_0).toLoadRect (harg14.unread x12)
  w0 := View.readAt (Elt F) arg6.view (Rect.unit (s := S4x1024) ![0, 0] S1x1024.size inb_S4x1024_S1x1024_0_0).toLoadRect (harg6.unread x4)
  w1 := View.readAt (Elt F) arg6.view (Rect.unit (s := S4x1024) ![1, 0] S1x1024.size inb_S4x1024_S1x1024_1_0).toLoadRect (harg6.unread x4)
  w2 := View.readAt (Elt F) arg6.view (Rect.unit (s := S4x1024) ![2, 0] S1x1024.size inb_S4x1024_S1x1024_2_0).toLoadRect (harg6.unread x4)
  w3 := View.readAt (Elt F) arg6.view (Rect.unit (s := S4x1024) ![3, 0] S1x1024.size inb_S4x1024_S1x1024_3_0).toLoadRect (harg6.unread x4)
  tail := tail
  h := h

/-- What a call of case B loads: the three rows before the block and the state are the carried ones. -/
def loadsB (xs0 : Vec F S8x1024 .f32) (xs1 : Vec F S16x1024 .f32) : Loads F :=
  loadsOf arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
    (View.readAt (Elt F) arg16.view (Rect.unit (s := S8x1024) ![5, 0] S3x1024.size inb_S8x1024_S3x1024_5_0).toLoadRect (harg16.unread xs0))
    (View.readAt (Elt F) arg17.view (Rect.unit (s := S16x1024) ![0, 0] S16x1024.size inb_S16x1024_S16x1024_0_0).toLoadRect (harg17.unread xs1))

set_option maxHeartbeats 16000000 in
/-- The stores of a call of case B: output rows, carried rows, carried state. -/
theorem runB_eq (hc : ¬cond0_0 i) (xs0 : Vec F S8x1024 .f32) (xs1 : Vec F S16x1024 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs0 xs1).1 = [⟨Rect.unit (s := S1x128x512) ![0, 0, 0] S1x128x512.size inb_S1x128x512_S1x128x512_0_0_0,
      (loadsB arg2 harg2 arg3 harg3 arg4 harg4 arg5 harg5 arg6 harg6 arg7 harg7 arg8 harg8 arg9 harg9 arg10 harg10 arg11 harg11 arg12 harg12 arg13 harg13 arg14 harg14 arg16 harg16 arg17 harg17 x0 x1 x2 x3 x4 x5 x6 x7 x8 x9 x10 x11 x12 xs0 xs1).rows arg18.view arg19.view⟩] ∧
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs0 xs1).2.1 = [⟨Rect.unit (s := S8x1024) ![5, 0] S3x1024.size inb_S8x1024_S3x1024_5_0,
      (loadsB arg2 harg2 arg3 harg3 arg4 harg4 arg5 harg5 arg6 harg6 arg7 harg7 arg8 harg8 arg9 harg9 arg10 harg10 arg11 harg11 arg12 harg12 arg13 harg13 arg14 harg14 arg16 harg16 arg17 harg17 x0 x1 x2 x3 x4 x5 x6 x7 x8 x9 x10 x11 x12 xs0 xs1).newTail⟩] ∧
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs0 xs1).2.2.1 = [⟨Rect.unit (s := S16x1024) ![0, 0] S16x1024.size inb_S16x1024_S16x1024_0_0,
      (shapeCast S16x1024 ((loadsB arg2 harg2 arg3 harg3 arg4 harg4 arg5 harg5 arg6 harg6 arg7 harg7 arg8 harg8 arg9 harg9 arg10 harg10 arg11 harg11 arg12 harg12 arg13 harg13 arg14 harg14 arg16 harg16 arg17 harg17 x0 x1 x2 x3 x4 x5 x6 x7 x8 x9 x10 x11 x12 xs0 xs1).state arg18.view 128 le_rfl)
        shapeCasts_S16x1024_S16x1024 : FVec F S16x1024 .f32)⟩] :=
  ⟨rfl, rfl, rfl⟩

/-- What a call of case A loads: the three rows before the block and the state are zeros, stored and read back. -/
def loadsA  : Loads F :=
  loadsOf arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
    (arg16.view.readCov [⟨Rect.unit (s := S8x1024) ![0, 0] S8x1024.size inb_S8x1024_S8x1024_0_0, k0_pay2 (F := F)⟩] (Rect.unit (s := S8x1024) ![5, 0] S3x1024.size inb_S8x1024_S3x1024_5_0).toLoadRect)
    (arg17.view.readCov [⟨Rect.unit (s := S16x1024) ![0, 0] S16x1024.size inb_S16x1024_S16x1024_0_0, k0_pay3 (F := F)⟩] (Rect.unit (s := S16x1024) ![0, 0] S16x1024.size inb_S16x1024_S16x1024_0_0).toLoadRect)

set_option maxHeartbeats 16000000 in
/-- The stores of a call of case A: output rows, carried rows, carried state. -/
theorem runA_eq (hc : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12).1 = [⟨Rect.unit (s := S1x128x512) ![0, 0, 0] S1x128x512.size inb_S1x128x512_S1x128x512_0_0_0,
      (loadsA arg2 harg2 arg3 harg3 arg4 harg4 arg5 harg5 arg6 harg6 arg7 harg7 arg8 harg8 arg9 harg9 arg10 harg10 arg11 harg11 arg12 harg12 arg13 harg13 arg14 harg14 arg16 arg17 x0 x1 x2 x3 x4 x5 x6 x7 x8 x9 x10 x11 x12).rows arg18.view arg19.view⟩] ∧
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12).2.1 = [⟨Rect.unit (s := S8x1024) ![5, 0] S3x1024.size inb_S8x1024_S3x1024_5_0,
      (loadsA arg2 harg2 arg3 harg3 arg4 harg4 arg5 harg5 arg6 harg6 arg7 harg7 arg8 harg8 arg9 harg9 arg10 harg10 arg11 harg11 arg12 harg12 arg13 harg13 arg14 harg14 arg16 arg17 x0 x1 x2 x3 x4 x5 x6 x7 x8 x9 x10 x11 x12).newTail⟩,
      ⟨Rect.unit (s := S8x1024) ![0, 0] S8x1024.size inb_S8x1024_S8x1024_0_0, k0_pay2⟩] ∧
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12).2.2.1 = [⟨Rect.unit (s := S16x1024) ![0, 0] S16x1024.size inb_S16x1024_S16x1024_0_0,
      (shapeCast S16x1024 ((loadsA arg2 harg2 arg3 harg3 arg4 harg4 arg5 harg5 arg6 harg6 arg7 harg7 arg8 harg8 arg9 harg9 arg10 harg10 arg11 harg11 arg12 harg12 arg13 harg13 arg14 harg14 arg16 arg17 x0 x1 x2 x3 x4 x5 x6 x7 x8 x9 x10 x11 x12).state arg18.view 128 le_rfl)
        shapeCasts_S16x1024_S16x1024 : FVec F S16x1024 .f32)⟩,
      ⟨Rect.unit (s := S16x1024) ![0, 0] S16x1024.size inb_S16x1024_S16x1024_0_0, k0_pay3⟩] :=
  ⟨rfl, rfl, rfl⟩

end Mamba
-- ==== Proof.Calls.lean ====
/-
  What each grid point leaves: the output block, the carried rows and the carried state, as the block's functions of
  the point's input windows and of what the point before left (`call_first`, `call_next`).
-/
module

public import proofs.«01_k».proof.Proof.Stores

@[expose] public section

set_option maxRecDepth 16384

noncomputable section

namespace Mamba

open Cert.KernelIdeal Cert.KernelIdeal.Gen Idealize.ShloMosaic Idealize.ShloMosaic.TcCoe

variable {F : FTy → Type} [FloatOps F] [Named F]

/-- The rows of the carried buffer that are used: its last three. -/
def tailRect : Rect S8x1024 := Rect.unit (s := S8x1024) ![5, 0] S3x1024.size inb_S8x1024_S3x1024_5_0

/-- Row `k` of the taps. -/
def tap (x : Vec F S4x1024 .f32) (k : ℕ) (hk : ∀ a, (![k, 0] : Fin 2 → ℕ) a + S1x1024.size a ≤ S4x1024.size a) :
    Vec F S1x1024 .f32 := View.ld x (Rect.unit (s := S4x1024) ![k, 0] S1x1024.size hk)

/-- The loads of a call from the windows' contents alone. -/
def mkLoads (x0 : Vec F S1x128x512 .f32) (x1 : Vec F S1x512 .f32) (x2 : Vec F S1x512 .f32) (x3 : Vec F S512x2048 .bf16) (x4 : Vec F S4x1024 .f32)
    (x5 : Vec F S1x1024 .f32) (x6 : Vec F S1024x64 .f32) (x7 : Vec F S32x1024 .f32) (x8 : Vec F S1x1024 .f32) (x9 : Vec F S16x1024 .f32)
    (x10 : Vec F S1x1024 .f32) (x11 : Vec F S1024x512 .f32) (x12 : Vec F S128x2048 .f32)
    (tail : Vec F S3x1024 .f32) (h : Vec F S16x1024 .f32) : Loads F where
  x := x0
  gamma := x1
  beta := x2
  win := x3
  tail := tail
  cb := x5
  w0 := tap x4 0 inb_S4x1024_S1x1024_0_0
  w1 := tap x4 1 inb_S4x1024_S1x1024_1_0
  w2 := tap x4 2 inb_S4x1024_S1x1024_2_0
  w3 := tap x4 3 inb_S4x1024_S1x1024_3_0
  wx := x6
  wdt := x7
  bdt := x8
  an := x9
  dp := x10
  wout := x11
  pick := x12
  h := h

/-- One whole-buffer store over anything, read back, is the stored array. -/
theorem read_whole {sp : Space} {s : Shape} {e : EltTy} (v : View sig .tc sp s e) (off : Fin s.rank → ℕ)
    (h0 : off = fun _ => 0) (inb : ∀ a, off a + s.size a ≤ s.size a) (w : s.Idx → Elt F e)
    (L : List (View.Piece (Elt F) s e)) :
    v.read (Elt F) (v.writes (Elt F) v.junk ((⟨Rect.unit off s.size inb, w⟩ : View.Piece (Elt F) s e) :: L)) = w := by
  funext y
  rw [View.read_writes_junk_apply_eq_canon, View.canon_cons_unit_zero h0]

/-- A last store through a rectangle, read back through it, is the stored array. -/
theorem ld_read_last {sp : Space} {s : Shape} {e : EltTy} (v : View sig .tc sp s e) (f : v.ty.Contents (Elt F))
    (r : Rect s) (w : r.shape.Idx → Elt F e) (L : List (View.Piece (Elt F) s e)) :
    View.ld (v.read (Elt F) (v.writes (Elt F) f ((⟨r, w⟩ : View.Piece (Elt F) s e) :: L))) r = w := by
  funext x
  exact View.read_writes_cons_emb v f r w L x

/-- Two zero offsets. -/
theorem zero2 : (![0, 0] : Fin 2 → ℕ) = fun _ => 0 := by decide

/-- Three zero offsets. -/
theorem zero3 : (![0, 0, 0] : Fin 3 → ℕ) = fun _ => 0 := by decide

/-- A cast of a 16×1024 array to its own shape changes nothing. -/
theorem cast16 (w : FVec F S16x1024 .f32) :
    (shapeCast S16x1024 w shapeCasts_S16x1024_S16x1024 : FVec F S16x1024 .f32) = w := shapeCast_self _ _

section
variable (c : Dev nD) (i : grid0.Coords)
    (arg2 : Memref sig .tc .vmem S1x128x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S512x2048 .bf16) (harg5 : arg5.IsWhole)
    (arg6 : Memref sig .tc .vmem S4x1024 .f32) (harg6 : arg6.IsWhole)
    (arg7 : Memref sig .tc .vmem S1x1024 .f32) (harg7 : arg7.IsWhole)
    (arg8 : Memref sig .tc .vmem S1024x64 .f32) (harg8 : arg8.IsWhole)
    (arg9 : Memref sig .tc .vmem S32x1024 .f32) (harg9 : arg9.IsWhole)
    (arg10 : Memref sig .tc .vmem S1x1024 .f32) (harg10 : arg10.IsWhole)
    (arg11 : Memref sig .tc .vmem S16x1024 .f32) (harg11 : arg11.IsWhole)
    (arg12 : Memref sig .tc .vmem S1x1024 .f32) (harg12 : arg12.IsWhole)
    (arg13 : Memref sig .tc .vmem S1024x512 .f32) (harg13 : arg13.IsWhole)
    (arg14 : Memref sig .tc .vmem S128x2048 .f32) (harg14 : arg14.IsWhole)
    (arg15 : Memref sig .tc .vmem S1x128x512 .f32) (harg15 : arg15.IsWhole)
    (arg16 : Memref sig .tc .vmem S8x1024 .f32) (harg16 : arg16.IsWhole)
    (arg17 : Memref sig .tc .vmem S16x1024 .f32) (harg17 : arg17.IsWhole)
    (arg18 : Memref sig .tc .vmem S128x32x1024 .f32) (harg18 : arg18.IsWhole)
    (arg19 : Memref sig .tc .vmem S128x16x1024 .f32) (harg19 : arg19.IsWhole)
    (x0 : Vec F S1x128x512 .f32) (x1 : Vec F S1x512 .f32) (x2 : Vec F S1x512 .f32) (x3 : Vec F S512x2048 .bf16) (x4 : Vec F S4x1024 .f32)
    (x5 : Vec F S1x1024 .f32) (x6 : Vec F S1024x64 .f32) (x7 : Vec F S32x1024 .f32) (x8 : Vec F S1x1024 .f32) (x9 : Vec F S16x1024 .f32)
    (x10 : Vec F S1x1024 .f32) (x11 : Vec F S1024x512 .f32) (x12 : Vec F S128x2048 .f32)

/-- A call's loads, read from whole windows, are the windows' contents. -/
theorem loadsOf_eq (tail : Vec F S3x1024 .f32) (h : Vec F S16x1024 .f32) :
    loadsOf arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 tail h = mkLoads x0 x1 x2 x3 x4 x5 x6 x7 x8 x9 x10 x11 x12 tail h := by
  unfold loadsOf mkLoads
  simp only [View.readAt_eq_ld, Memref.IsWhole.read_unread]
  congr 1
  all_goals first | rfl | exact View.ld_unit_zero zero2 _ _ | exact View.ld_unit_zero zero3 _ _

/-- The loads of a sequence's first call: the carried rows and the state are the zeros it has just stored. -/
theorem loadsA_eq : loadsA arg2 harg2 arg3 harg3 arg4 harg4 arg5 harg5 arg6 harg6 arg7 harg7 arg8 harg8 arg9 harg9 arg10 harg10 arg11 harg11 arg12 harg12 arg13 harg13 arg14 harg14 arg16 arg17 x0 x1 x2 x3 x4 x5 x6 x7 x8 x9 x10 x11 x12 =
    mkLoads x0 x1 x2 x3 x4 x5 x6 x7 x8 x9 x10 x11 x12 (View.ld (k0_pay2 (F := F)) tailRect) (k0_pay3 (F := F)) := by
  unfold loadsA
  rw [loadsOf_eq, View.readCov_unit_zero _ zero2]
  congr 1
  rw [View.readCov_eq_canon', View.canon_unit_zero zero2]
  rfl

/-- The loads of a later call: the carried rows and the state are what the call before left. -/
theorem loadsB_eq (xs0 : Vec F S8x1024 .f32) (xs1 : Vec F S16x1024 .f32) :
    loadsB arg2 harg2 arg3 harg3 arg4 harg4 arg5 harg5 arg6 harg6 arg7 harg7 arg8 harg8 arg9 harg9 arg10 harg10 arg11 harg11 arg12 harg12 arg13 harg13 arg14 harg14 arg16 harg16 arg17 harg17 x0 x1 x2 x3 x4 x5 x6 x7 x8 x9 x10 x11 x12 xs0 xs1 =
    mkLoads x0 x1 x2 x3 x4 x5 x6 x7 x8 x9 x10 x11 x12 (View.ld xs0 tailRect) xs1 := by
  unfold loadsB
  rw [loadsOf_eq]
  simp only [View.readAt_eq_ld, Memref.IsWhole.read_unread]
  congr 1
  exact View.ld_unit_zero zero2 _ _

/-- What a sequence's first call leaves in the output window. -/
theorem outA_eq (hc : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 =
    (mkLoads x0 x1 x2 x3 x4 x5 x6 x7 x8 x9 x10 x11 x12 (View.ld (k0_pay2 (F := F)) tailRect) (k0_pay3 (F := F))).rows arg18.view arg19.view := by
  unfold out0_A_13
  rw [(runA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc).1, read_whole _ _ zero3, loadsA_eq]

/-- What a sequence's first call leaves in the rows it hands on. -/
theorem tailA_eq (hc : cond0_0 i) : View.ld (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12) tailRect =
    (mkLoads x0 x1 x2 x3 x4 x5 x6 x7 x8 x9 x10 x11 x12 (View.ld (k0_pay2 (F := F)) tailRect) (k0_pay3 (F := F))).newTail := by
  unfold sout0_A_0
  rw [(runA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc).2.1, loadsA_eq]
  exact ld_read_last _ _ tailRect _ _

/-- What a sequence's first call leaves as the state. -/
theorem stateA_eq (hc : cond0_0 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 =
    (mkLoads x0 x1 x2 x3 x4 x5 x6 x7 x8 x9 x10 x11 x12 (View.ld (k0_pay2 (F := F)) tailRect) (k0_pay3 (F := F))).state arg18.view 128 le_rfl := by
  unfold sout0_A_1
  rw [(runA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc).2.2, read_whole _ _ zero2, loadsA_eq]
  exact cast16 _

/-- What a later call leaves in the output window. -/
theorem outB_eq (hc : ¬cond0_0 i) (xs0 : Vec F S8x1024 .f32) (xs1 : Vec F S16x1024 .f32) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs0 xs1 =
    (mkLoads x0 x1 x2 x3 x4 x5 x6 x7 x8 x9 x10 x11 x12 (View.ld xs0 tailRect) xs1).rows arg18.view arg19.view := by
  unfold out0_B_13
  rw [(runB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc xs0 xs1).1, read_whole _ _ zero3, loadsB_eq]

/-- What a later call leaves in the rows it hands on. -/
theorem tailB_eq (hc : ¬cond0_0 i) (xs0 : Vec F S8x1024 .f32) (xs1 : Vec F S16x1024 .f32) : View.ld (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs0 xs1) tailRect =
    (mkLoads x0 x1 x2 x3 x4 x5 x6 x7 x8 x9 x10 x11 x12 (View.ld xs0 tailRect) xs1).newTail := by
  unfold sout0_B_0
  rw [(runB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc xs0 xs1).2.1, loadsB_eq]
  exact ld_read_last _ _ tailRect _ _

/-- What a later call leaves as the state. -/
theorem stateB_eq (hc : ¬cond0_0 i) (xs0 : Vec F S8x1024 .f32) (xs1 : Vec F S16x1024 .f32) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs0 xs1 =
    (mkLoads x0 x1 x2 x3 x4 x5 x6 x7 x8 x9 x10 x11 x12 (View.ld xs0 tailRect) xs1).state arg18.view 128 le_rfl := by
  unfold sout0_B_1
  rw [(runB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc xs0 xs1).2.2, read_whole _ _ zero2, loadsB_eq]
  exact cast16 _

end

section
variable (m : (ℓ : Loc nD τ sig) → Buf (Elt F) ℓ) (c : Dev nD) (t : Fin cfg0.N)

/-- The loads of grid point `t`, given the three earlier rows and the state. -/
def ptLoads (tail : Vec F S3x1024 .f32) (h : Vec F S16x1024 .f32) : Loads F :=
  mkLoads (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) tail h

/-- What the first block of a batch member leaves. -/
theorem call_first (h0 : t.val % 16 = 0) :
    (outsAt0 m c t.val t.isLt).1 = (ptLoads m c t (View.ld (k0_pay2 (F := F)) tailRect) k0_pay3).rows scM0_2.view scM0_3.view ∧
    View.ld (outsAt0 m c t.val t.isLt).2.1 tailRect =
      (ptLoads m c t (View.ld (k0_pay2 (F := F)) tailRect) k0_pay3).newTail ∧
    (outsAt0 m c t.val t.isLt).2.2 =
      (ptLoads m c t (View.ld (k0_pay2 (F := F)) tailRect) k0_pay3).state scM0_2.view 128 le_rfl := by
  rw [outsAt0_A m c t h0]
  dsimp only
  rw [outA_eq, tailA_eq, stateA_eq]
  exact ⟨rfl, rfl, rfl⟩

/-- What every later block leaves, over what the block before it left. -/
theorem call_next (h0 : ¬t.val % 16 = 0) (p : Vec F S1x128x512 .f32 × Vec F S8x1024 .f32 × Vec F S16x1024 .f32)
    (hp : outsAt0 m c (t.val - 1) (Nat.lt_of_le_of_lt (Nat.sub_le _ _) t.isLt) = p) :
    (outsAt0 m c t.val t.isLt).1 = (ptLoads m c t (View.ld p.2.1 tailRect) p.2.2).rows scM0_2.view scM0_3.view ∧
    View.ld (outsAt0 m c t.val t.isLt).2.1 tailRect = (ptLoads m c t (View.ld p.2.1 tailRect) p.2.2).newTail ∧
    (outsAt0 m c t.val t.isLt).2.2 =
      (ptLoads m c t (View.ld p.2.1 tailRect) p.2.2).state scM0_2.view 128 le_rfl := by
  subst hp
  rw [outsAt0_B m c t h0]
  dsimp only
  rw [outB_eq, tailB_eq, stateB_eq]
  exact ⟨rfl, rfl, rfl⟩

end

end Mamba
-- ==== Proof.BlockValue.lean ====
/-
  What one block computes, entry by entry, when its loads hold the rows of a batch member from time `l0` on.
-/
module

public import proofs.«01_k».proof.Proof.Calls
public import Idealize.ShloMosaic.Lib.Pointwise
public import Idealize.ShloMosaic.Lib.Pipeline.ValueKit.Geometry

@[expose] public section

set_option maxRecDepth 16384

noncomputable section

namespace Mamba

open Cert.KernelIdeal Cert.KernelIdeal.Gen Idealize.ShloMosaic Idealize.ShloMosaic.TcCoe

/-- The block's loads hold: the input rows `l0 …`, the layer's weights laid out by the host, the three rows before
    `l0`, the state before step `l0`. -/
structure Holds (L : Loads Ideal) (W : Layer) (x : ℕ → ℕ → EReal) (l0 : ℕ) : Prop where
  rows : ∀ (t : Fin 128) (d : Fin 512), L.x (ix3 0 t d) = x (l0 + t) d
  gamma : ∀ d : Fin 512, L.gamma (ix2 0 d) = W.gamma d
  beta : ∀ d : Fin 512, L.beta (ix2 0 d) = W.beta d
  win : ∀ (d : Fin 512) (e : Fin 2048), L.win (ix2 d e) = W.win e d
  tail : ∀ (i : Fin 3) (d : Fin 1024), L.tail (ix2 i d) = W.padded x (l0 + i) d
  cb : ∀ d : Fin 1024, L.cb (ix2 0 d) = W.cb d
  w0 : ∀ d : Fin 1024, L.w0 (ix2 0 d) = W.cw d 0
  w1 : ∀ d : Fin 1024, L.w1 (ix2 0 d) = W.cw d 1
  w2 : ∀ d : Fin 1024, L.w2 (ix2 0 d) = W.cw d 2
  w3 : ∀ d : Fin 1024, L.w3 (ix2 0 d) = W.cw d 3
  wx : ∀ (d : Fin 1024) (e : Fin 64), L.wx (ix2 d e) = W.wx e d
  wdt : ∀ (r : Fin 32) (d : Fin 1024), L.wdt (ix2 r d) = W.wdt d r
  bdt : ∀ d : Fin 1024, L.bdt (ix2 0 d) = W.bdt d
  an : ∀ (s : Fin 16) (d : Fin 1024), L.an (ix2 s d) = -(Ideal.exp (W.alog d s))
  dp : ∀ d : Fin 1024, L.dp (ix2 0 d) = W.dp d
  wout : ∀ (d : Fin 1024) (o : Fin 512), L.wout (ix2 d o) = W.wout o d
  pick : ∀ (t : Fin 128) (j : Fin 2048), L.pick (ix2 t j) = if j.val / 16 = t.val then 1 else 0
  h : ∀ (s : Fin 16) (d : Fin 1024), L.h (ix2 s d) = W.state x l0 s d

variable {L : Loads Ideal} {W : Layer} {x : ℕ → ℕ → EReal} {l0 : ℕ}

/-- The first projection of the normalized rows. -/
theorem xz_at (H : Holds L W x l0) (t : Fin 128) (e : Fin 2048) :
    k0_pay4 L.x L.gamma L.beta L.win (ix2 t e) = W.xz (x (l0 + t)) e := by
  unfold Layer.xz Layer.norm variance mean
  pointwise [k0_pay4]
  simp only [H.rows, H.gamma, H.beta, H.win]

/-- The convolution's rows: the three earlier ones, then the block's. -/
theorem padded_at (H : Holds L W x l0) (j : Fin 131) (d : Fin 1024) :
    k0_pay7 L.x L.gamma L.beta L.win L.tail (ix2 j d) = W.padded x (l0 + j) d := by
  pointwise [k0_pay7, k0_pay5]
  split
  · rw [H.tail]
  · next hj =>
    have e : l0 + j.val - 3 = l0 + (j.val - 3) := by omega
    have h3 : j.val - 3 < 128 := by have := j.isLt; omega
    have hd : d.val < 2048 := by have := d.isLt; omega
    have hp : W.padded x (l0 + j.val) d.val = W.xz (x (l0 + (j.val - 3))) d.val := by
      unfold Layer.padded; rw [if_neg (by omega), e]
    exact (xz_at H ⟨j.val - 3, h3⟩ ⟨d.val, hd⟩).trans hp.symm

/-- The channels after convolution and silu. -/
theorem chan_at (H : Holds L W x l0) (t : Fin 128) (d : Fin 1024) :
    L.chan (ix2 t d) = W.chan x (l0 + t) d := by
  unfold Loads.chan Layer.chan silu Layer.conv
  pointwise [k0_pay10]
  simp only [padded_at H, H.cb, H.w0, H.w1, H.w2, H.w3, zero_sub, Nat.add_left_comm l0]

/-- The second projection of the channels. -/
theorem proj_at (H : Holds L W x l0) (t : Fin 128) (e : Fin 64) :
    k0_pay12 L.chan (k0_pay11 L.wx) Loads.zacc (ix2 t e) = W.proj x (l0 + t) e := by
  unfold Layer.proj
  pointwise [k0_pay12, k0_pay11, Loads.zacc]
  simp only [chan_at H, H.wx]

/-- Columns 32 … 47 of the second projection: the input vector. -/
theorem bcol_at (H : Holds L W x l0) (t : Fin 128) (s : Fin 16) :
    L.bcol (ix2 t s) = W.proj x (l0 + t) (32 + s) := by
  unfold Loads.bcol
  pointwise [k0_pay13]
  simp only [proj_at H]

/-- Columns 48 … 63 of the second projection: the output vector. -/
theorem ccol_at (H : Holds L W x l0) (t : Fin 128) (s : Fin 16) :
    L.ccol (ix2 t s) = W.proj x (l0 + t) (48 + s) := by
  unfold Loads.ccol
  pointwise [k0_pay14]
  simp only [proj_at H]

/-- The time steps. -/
theorem dt_at (H : Holds L W x l0) (t : Fin 128) (d : Fin 1024) :
    L.dtv (ix2 t d) = W.dt x (l0 + t) d := by
  unfold Loads.dtv Layer.dt softplus
  pointwise [k0_pay15]
  simp only [proj_at H, H.wdt, H.bdt, zero_sub]
  rfl

/-- The time steps times the channels. -/
theorem dtx_at (H : Holds L W x l0) (t : Fin 128) (d : Fin 1024) :
    L.dtx (ix2 t d) = W.dt x (l0 + t) d * W.chan x (l0 + t) d := by
  have h1 : L.dtx (ix2 t d) = L.dtv (ix2 t d) * L.chan (ix2 t d) := rfl
  rw [h1, dt_at H, chan_at H]

/-- The coefficient array: decays in rows `0 … 15`, drives in rows `16 … 31`. -/
def coefFun (W : Layer) (x : ℕ → ℕ → EReal) (l0 : ℕ) (i : S128x32x1024.Idx) : EReal :=
  if (i 1).val < 16 then W.decay x (l0 + (i 0).val) (i 1).val (i 2).val
  else W.drive x (l0 + (i 0).val) ((i 1).val - 16) (i 2).val

/-- A power of two to `d · (a / ln 2)` is `exp (d · a)`. -/
theorem exp2_log2e (d a : EReal) :
    Ideal.exp2 (d * (a * (((Real.log 2)⁻¹ : ℝ) : EReal))) = Ideal.exp (d * a) := by
  rw [← mul_assoc]
  generalize d * a = y
  have h2 : (0:ℝ) < Real.log 2 := Real.log_pos (by norm_num)
  have h2' : (0:ℝ) < (Real.log 2)⁻¹ := inv_pos.mpr h2
  induction y using EReal.rec with
  | bot => rw [EReal.bot_mul_coe_of_pos h2']; rfl
  | top => rw [EReal.top_mul_coe_of_pos h2']; rfl
  | coe r =>
    rw [← EReal.coe_mul]
    show ((Real.rpow 2 (r * (Real.log 2)⁻¹) : ℝ) : EReal) = ((Real.exp r : ℝ) : EReal)
    congr 1
    show (2:ℝ) ^ (r * (Real.log 2)⁻¹) = _
    rw [Real.rpow_def_of_pos (by norm_num)]
    congr 1
    field_simp

/-- The state matrix times `1 / ln 2`. -/
theorem scaled_at (H : Holds L W x l0) (s : Fin 16) (d : Fin 1024) :
    k0_pay17 L.an (ix2 s d) = -(Ideal.exp (W.alog d s)) * (((Real.log 2)⁻¹ : ℝ) : EReal) := by
  have e : (Named.named κ "log2e" 0x3FB8AA3B#32 : Ideal .f32) = (((Real.log 2)⁻¹ : ℝ) : EReal) :=
    IdealRules.named_const.ideal_named_scalar _ _ _ _ rfl
  pointwise [k0_pay17]
  rw [H.an]
  exact congrArg _ e

/-- The four stores of decays, at an entry. -/
theorem decays_at (H : Holds L W x l0) (t : Fin 32) (s : Fin 16) (d : Fin 1024) :
    k0_pay18 L.chan (k0_pay11 L.wx) Loads.zacc L.wdt L.bdt L.an (ix3 t s d) = W.decay x (l0 + t) s d ∧
    k0_pay21 L.dtv (k0_pay17 L.an) (ix3 t s d) = W.decay x (l0 + (32 + t)) s d ∧
    k0_pay23 L.dtv (k0_pay17 L.an) (ix3 t s d) = W.decay x (l0 + (64 + t)) s d ∧
    k0_pay26 (k0_pay17 L.an) (k0_pay25 L.dtv) (ix3 t s d) = W.decay x (l0 + (96 + t)) s d := by
  have h := fun t d => dt_at H t d
  have h' := h
  unfold Loads.dtv at h'
  have ha := fun s d => scaled_at H s d
  unfold Layer.decay
  refine ⟨?_, ?_, ?_, ?_⟩
  · unfold k0_pay18
    generalize k0_pay17 L.an = A at ha ⊢
    pointwise
    simp only [h', ha]
    exact exp2_log2e _ _
  · generalize k0_pay17 L.an = A at ha ⊢
    pointwise [k0_pay21]
    simp only [h, ha]
    exact exp2_log2e _ _
  · generalize k0_pay17 L.an = A at ha ⊢
    pointwise [k0_pay23]
    simp only [h, ha]
    exact exp2_log2e _ _
  · generalize k0_pay17 L.an = A at ha ⊢
    pointwise [k0_pay25, k0_pay26]
    simp only [h, ha]
    exact exp2_log2e _ _

/-- The four stores of drives, at an entry. -/
theorem drives_at (H : Holds L W x l0) (t : Fin 32) (s : Fin 16) (d : Fin 1024) :
    k0_pay20 (k0_pay19 L.chan (k0_pay11 L.wx) Loads.zacc L.wdt L.bdt) (ix3 t s d) = W.drive x (l0 + t) s d ∧
    k0_pay22 L.bcol L.dtx (ix3 t s d) = W.drive x (l0 + (32 + t)) s d ∧
    k0_pay24 L.bcol L.dtx (ix3 t s d) = W.drive x (l0 + (64 + t)) s d ∧
    k0_pay27 L.bcol L.dtx (ix3 t s d) = W.drive x (l0 + (96 + t)) s d := by
  have hb := fun t s => bcol_at H t s
  have hb' := hb
  unfold Loads.bcol at hb'
  have hx := fun t d => dtx_at H t d
  have hx' := hx
  unfold Loads.dtx at hx'
  unfold Layer.drive
  refine ⟨?_, ?_, ?_, ?_⟩
  · pointwise [k0_pay19, k0_pay20]
    simp only [hb', hx']
  · pointwise [k0_pay22]
    simp only [hb, hx]
  · pointwise [k0_pay24]
    simp only [hb, hx]
  · pointwise [k0_pay27]
    simp only [hb, hx]

/-- An index of a store of the coefficient array, by its coordinates. -/
theorem emb_coef (o k : ℕ) (inb : ∀ a, (![o, k, 0] : Fin 3 → ℕ) a + S32x16x1024.size a ≤ S128x32x1024.size a)
    (t : Fin 32) (s : Fin 16) (d : Fin 1024) :
    coefFun W x l0 ((Rect.unit (s := S128x32x1024) ![o, k, 0] S32x16x1024.size inb).emb (ix3 t s d)) =
      if k + s.val < 16 then W.decay x (l0 + (o + t)) (k + s) d else W.drive x (l0 + (o + t)) (k + s - 16) d := by
  unfold coefFun
  simp only [ValueKit.rect_emb_unit_val]
  simp [ix3]

/-- Every store into the coefficient array writes the layer's decays and drives at its place. -/
theorem coefs_restrict (H : Holds L W x l0) :
    ∀ p ∈ L.coefs, ∀ j : p.1.shape.Idx, p.2 j = coefFun W x l0 (p.1.emb j) := by
  intro p hp
  simp only [Loads.coefs, List.mem_cons, List.not_mem_nil, or_false] at hp
  have hd := fun t s d => decays_at H t s d
  have hr := fun t s d => drives_at H t s d
  rcases hp with rfl | rfl | rfl | rfl | rfl | rfl | rfl | rfl <;> intro j <;> idx_vars j <;>
    refine Eq.trans ?_ (emb_coef _ _ _ _ _ _).symm
  · rw [if_neg (by omega), show 16 + j1.val - 16 = j1.val by omega]; exact (hr j0 j1 j2).2.2.2
  · rw [if_pos (by omega), show 0 + j1.val = j1.val by omega]; exact (hd j0 j1 j2).2.2.2
  · rw [if_neg (by omega), show 16 + j1.val - 16 = j1.val by omega]; exact (hr j0 j1 j2).2.2.1
  · rw [if_pos (by omega), show 0 + j1.val = j1.val by omega]; exact (hd j0 j1 j2).2.2.1
  · rw [if_neg (by omega), show 16 + j1.val - 16 = j1.val by omega]; exact (hr j0 j1 j2).2.1
  · rw [if_pos (by omega), show 0 + j1.val = j1.val by omega]; exact (hd j0 j1 j2).2.1
  · rw [if_neg (by omega), show 16 + j1.val - 16 = j1.val by omega]; exact (hr j0 j1 j2).1.trans (by rw [Nat.zero_add])
  · rw [if_pos (by omega), show 0 + j1.val = j1.val by omega]; exact (hd j0 j1 j2).1.trans (by rw [Nat.zero_add])

/-- The coefficient array read at row `t`. -/
theorem coefRow_at (H : Holds L W x l0) {sp : Space} (v : View sig .tc sp S128x32x1024 .f32) (t : Fin 128)
    (k : Fin 32) (d : Fin 1024) :
    coefRow v L.coefs t (ix3 0 k d) =
      if k.val < 16 then W.decay x (l0 + t) k d else W.drive x (l0 + t) (k - 16) d := by
  unfold coefRow
  rw [View.readCov_eq_canon']
  dsimp only
  rw [View.canon_apply_of_pieces (coefFun W x l0) L.coefs (coefs_restrict H) _
    (View.cover_of_tiledL L.coefs S32x16x1024.size (by sl_kernel_rfl) _)]
  show coefFun W x l0 ((Rect.unit (s := S128x32x1024) ![t.val, 0, 0] S1x32x1024.size (coef_inb t.val t.isLt)).emb
    (ix3 0 k d)) = _
  unfold coefFun
  simp only [ValueKit.rect_emb_unit_val]
  simp [ix3]

/-- One step at an entry. -/
theorem step_at (h : FVec Ideal S16x1024 .f32) (ab : Vec Ideal S1x32x1024 .f32) (s : Fin 16) (d : Fin 1024) :
    step h ab (ix2 s d) = h (ix2 s d) * ab (ix3 0 ⟨s, by omega⟩ d) + ab (ix3 0 ⟨16 + s, by omega⟩ d) := by
  pointwise [step]

/-- The state after `n` of the block's steps. -/
theorem state_at (H : Holds L W x l0) {sp : Space} (v : View sig .tc sp S128x32x1024 .f32) (n : ℕ) (hn : n ≤ 128)
    (s : Fin 16) (d : Fin 1024) : L.state v n hn (ix2 s d) = W.state x (l0 + n) s d := by
  unfold Loads.state
  induction n generalizing s d with
  | zero => exact H.h s d
  | succ n ih =>
    unfold hist
    rw [step_at, ih, coefRow_at H, coefRow_at H, if_pos s.isLt, if_neg (by simp)]
    simp only [Nat.add_sub_cancel_left]
    rfl

/-- The stored states: row `t` holds the state after step `t`. -/
def stateFun (W : Layer) (x : ℕ → ℕ → EReal) (l0 : ℕ) (i : S128x16x1024.Idx) : EReal :=
  W.state x (l0 + ((i 0).val + 1)) (i 1).val (i 2).val

/-- Every store of a state writes the layer's state after its step. -/
theorem states_restrict (H : Holds L W x l0) {sp : Space} (v : View sig .tc sp S128x32x1024 .f32) (n : ℕ) (hn : n ≤ 128) :
    ∀ p ∈ states L.h (coefRow v L.coefs) n hn, ∀ j : p.1.shape.Idx, p.2 j = stateFun W x l0 (p.1.emb j) := by
  induction n with
  | zero => intro p hp; exact absurd hp (List.not_mem_nil)
  | succ n ih =>
    intro p hp
    unfold states at hp
    rcases List.mem_cons.mp hp with rfl | hp
    · intro j
      idx_vars j
      have e := state_at H v (n + 1) hn j1 j2
      unfold Loads.state at e
      unfold stateFun
      simp only [ValueKit.rect_emb_unit_val]
      refine Eq.trans ?_ (e.trans ?_)
      · pointwise
      · simp [ix3]
    · exact ih _ p hp

/-- The array of all states, read at row `t`, holds the state after step `t` of the block. -/
theorem all_at (H : Holds L W x l0) {sp sq : Space} (v : View sig .tc sp S128x32x1024 .f32)
    (u : View sig .tc sq S128x16x1024 .f32) (t : Fin 128) (s : Fin 16) (d : Fin 1024) :
    L.all v u (ix3 t s d) = W.state x (l0 + (t + 1)) s d := by
  unfold Loads.all
  rw [View.readCov_eq_canon']
  dsimp only
  rw [View.canon_apply_of_pieces (stateFun W x l0) _ (states_restrict H v 128 le_rfl) _ ?_]
  · show stateFun W x l0 ((Rect.unit (s := S128x16x1024) ![0, 0, 0] S128x16x1024.size
      inb_S128x16x1024_S128x16x1024_0_0_0).emb (ix3 t s d)) = _
    unfold stateFun
    simp only [ValueKit.rect_emb_unit_val]
    simp [ix3]
  · have hc : ∀ (n : ℕ) (hn : n ≤ 128) (y : S128x16x1024.Idx), (y 0).val < n →
        ∃ p ∈ states L.h (coefRow v L.coefs) n hn, y ∈ p.1.set := by
      intro n
      induction n with
      | zero => intro _ _ h; exact absurd h (Nat.not_lt_zero _)
      | succ n ih =>
        intro hn y hy
        by_cases h : (y 0).val < n
        · obtain ⟨p, hp, hm⟩ := ih (Nat.le_of_succ_le hn) y h
          exact ⟨p, List.mem_cons_of_mem _ hp, hm⟩
        · refine ⟨_, List.mem_cons_self, ?_⟩
          refine (Rect.mem_set_unit (inb := row_inb n hn)).mpr fun a => ?_
          have h1 : (y 1).val < 16 := (y 1).isLt
          have h2 : (y 2).val < 1024 := (y 2).isLt
          fin_cases a <;> simp [S1x16x1024] <;> omega
    exact hc 128 le_rfl _ (by simp)

/-- The columns repeated 128 times along the second axis, as the kernel does it: eight copies, then sixteen of those. -/
def tiled (C : FVec Ideal S128x16 .f32) : FVec Ideal S128x2048 .f32 :=
  concatenate S128x2048 1 (List.replicate 16 ⟨S128x128,
    concatenate S128x128 1 (List.replicate 8 ⟨S128x16, C⟩)
      concatenates_S128x16_S128x16_S128x16_S128x16_S128x16_S128x16_S128x16_S128x16_S128x128_d1⟩)
    concatenates_S128x128_S128x128_S128x128_S128x128_S128x128_S128x128_S128x128_S128x128_S128x128_S128x128_S128x128_S128x128_S128x128_S128x128_S128x128_S128x128_S128x2048_d1

/-- The output vector repeated along the row: column `j` holds entry `j % 16`. -/
theorem tiled_at (C : FVec Ideal S128x16 .f32) (t : Fin 128) (j : Fin 2048) :
    tiled C (ix2 t j) = C (ix2 t ⟨j % 16, by omega⟩) := by
  unfold tiled
  refine (concatenate_replicate_apply (t := S128x2048) (s₁ := S128x128) 1 16 _ _ rfl (ix2 t j) (ix2 t ⟨j % 128, by omega⟩) rfl ?_).trans ?_
  · intro b hb; fin_cases b <;> first | rfl | exact absurd rfl hb
  refine concatenate_replicate_apply (t := S128x128) (s₁ := S128x16) 1 8 C _ rfl (ix2 t (⟨j % 128, by omega⟩ : Fin 128)) (ix2 t (⟨j % 16, by omega⟩ : Fin 16)) ?_ ?_
  · show j.val % 16 = j.val % 128 % 16; omega
  · intro b hb; fin_cases b <;> first | rfl | exact absurd rfl hb

/-- The large product read at an entry: a sum over all 2048 pairs of a step and a state. -/
theorem reads_at (C : FVec Ideal S128x16 .f32) (M : Vec Ideal S128x2048 .f32) (A : Vec Ideal S128x16x1024 .f32)
    (t : Fin 128) (d : Fin 1024) :
    k0_pay301 C M A (ix2 t d) =
      ∑ j : Fin 2048, M (ix2 t j) * C (ix2 t ⟨j % 16, by omega⟩) * A (ix3 ⟨j / 16, by omega⟩ ⟨j % 16, by omega⟩ d) := by
  have e : k0_pay301 C M A = matmul dot_S128x2048_S2048x1024_S128x1024_1_0_0_1_n_n none
      (mulf (shapeCast S128x2048 M shapeCasts_S128x2048_S128x2048) (tiled C))
      (shapeCast S2048x1024 A shapeCasts_S128x16x1024_S2048x1024) (constant S128x1024 .f32 0x00000000#32) := rfl
  rw [e]
  pointwise
  simp only [tiled_at]

/-- A sum over 2048 rows in which only the sixteen of step `t` count. -/
theorem sum_pick (t : Fin 128) (f : ℕ → EReal) (g : ℕ → ℕ → EReal) :
    (∑ j : Fin 2048, (if j.val / 16 = t.val then (1 : EReal) else 0) * f (j.val % 16) * g (j.val / 16) (j.val % 16)) =
      ∑ s : Fin 16, f s * g t s := by
  rw [← (finProdFinEquiv (m := 128) (n := 16)).sum_comp, Fintype.sum_prod_type]
  have key : ∀ (a : Fin 128) (b : Fin 16), (finProdFinEquiv (a, b)).val / 16 = a.val ∧ (finProdFinEquiv (a, b)).val % 16 = b.val := by
    intro a b
    simp only [finProdFinEquiv_apply_val]
    omega
  rw [Finset.sum_eq_single t]
  · refine Finset.sum_congr rfl fun b _ => ?_
    rw [(key t b).1, (key t b).2, if_pos rfl, one_mul]
  · intro a _ ha
    refine Finset.sum_eq_zero fun b _ => ?_
    rw [(key a b).1, if_neg (fun h => ha (Fin.ext h)), zero_mul, zero_mul]
  · intro h; exact absurd (Finset.mem_univ t) h

/-- The large product is the recurrence's output: the selection leaves only step `t`'s sixteen states. -/
theorem y_at (H : Holds L W x l0) {sp sq : Space} (v : View sig .tc sp S128x32x1024 .f32)
    (u : View sig .tc sq S128x16x1024 .f32) (t : Fin 128) (d : Fin 1024) :
    k0_pay301 L.ccol L.pick (L.all v u) (ix2 t d) = W.read x (l0 + t) d := by
  rw [reads_at]
  simp only [H.pick, ccol_at H, all_at H]
  rw [sum_pick t (fun s => W.proj x (l0 + t) (48 + s)) (fun a s => W.state x (l0 + (a + 1)) s d)]
  unfold Layer.read
  exact Finset.sum_congr rfl fun s _ => mul_comm _ _

/-- The block's output rows are the layer's. -/
theorem rows_at (H : Holds L W x l0) {sp sq : Space} (v : View sig .tc sp S128x32x1024 .f32)
    (u : View sig .tc sq S128x16x1024 .f32) (t : Fin 128) (o : Fin 512) :
    L.rows v u (ix3 0 t o) = W.out x (l0 + t) o := by
  have hy := fun t d => y_at H v u t d
  unfold Loads.rows
  generalize k0_pay301 L.ccol L.pick (L.all v u) = Y at hy ⊢
  unfold Layer.out Layer.gated silu Layer.gate
  have hz := fun t (d : Fin 1024) => xz_at H t ⟨1024 + d.val, by omega⟩
  pointwise [k0_pay1, k0_pay302, k0_pay303, k0_pay6]
  simp only [hy, chan_at H, H.dp, H.wout, hz, zero_sub]

/-- The three rows the block hands on are the last three of its 131. -/
theorem newTail_at (H : Holds L W x l0) (i : Fin 3) (d : Fin 1024) :
    L.newTail (ix2 i d) = W.padded x (l0 + 128 + i) d := by
  unfold Loads.newTail
  pointwise [k0_pay9, k0_pay8, k0_pay5]
  have hd : d.val < 2048 := by have := d.isLt; omega
  refine (xz_at H ⟨125 + i.val, by omega⟩ ⟨d.val, hd⟩).trans ?_
  unfold Layer.padded
  rw [if_neg (by omega), show l0 + 128 + i.val - 3 = l0 + (125 + i.val) by omega]

end Mamba
-- ==== Proof.Args.lean ====
/-
  The twelve arguments read as one layer and four input sequences, by natural-number coordinates.
-/
module

public import proofs.«01_k».proof.Proof.BlockValue

@[expose] public section

noncomputable section

namespace Mamba

open Idealize.ShloMosaic

/-- A vector read at a natural number (`0` outside). -/
def at1 {n : ℕ} (f : (⟨1, ![n]⟩ : Shape).Idx → EReal) (i : ℕ) : EReal := if h : i < n then f (ix1 ⟨i, h⟩) else 0

/-- A matrix read at two natural numbers (`0` outside). -/
def at2 {n k : ℕ} (f : (⟨2, ![n, k]⟩ : Shape).Idx → EReal) (i j : ℕ) : EReal :=
  if h : i < n ∧ j < k then f (ix2 ⟨i, h.1⟩ ⟨j, h.2⟩) else 0

/-- A rank-3 array read at three natural numbers (`0` outside). -/
def at3 {n k l : ℕ} (f : (⟨3, ![n, k, l]⟩ : Shape).Idx → EReal) (i j q : ℕ) : EReal :=
  if h : i < n ∧ j < k ∧ q < l then f (ix3 ⟨i, h.1⟩ ⟨j, h.2.1⟩ ⟨q, h.2.2⟩) else 0

/-- Inside its bounds `at1` is the entry. -/
theorem at1_of_lt {n : ℕ} (f : (⟨1, ![n]⟩ : Shape).Idx → EReal) (i : ℕ) (h : i < n) : at1 f i = f (ix1 ⟨i, h⟩) :=
  dif_pos h

/-- Inside its bounds `at2` is the entry. -/
theorem at2_of_lt {n k : ℕ} (f : (⟨2, ![n, k]⟩ : Shape).Idx → EReal) (i j : ℕ) (hi : i < n) (hj : j < k) :
    at2 f i j = f (ix2 ⟨i, hi⟩ ⟨j, hj⟩) := dif_pos ⟨hi, hj⟩

/-- Inside its bounds `at3` is the entry. -/
theorem at3_of_lt {n k l : ℕ} (f : (⟨3, ![n, k, l]⟩ : Shape).Idx → EReal) (i j q : ℕ) (hi : i < n) (hj : j < k)
    (hq : q < l) : at3 f i j q = f (ix3 ⟨i, hi⟩ ⟨j, hj⟩ ⟨q, hq⟩) := dif_pos ⟨hi, hj, hq⟩

/-- The layer that the eleven weight arguments describe. -/
def layerOf (a1 a2 : (⟨1, ![512]⟩ : Shape).Idx → EReal) (a3 : (⟨2, ![2048, 512]⟩ : Shape).Idx → EReal)
    (a4 : (⟨3, ![1024, 1, 4]⟩ : Shape).Idx → EReal) (a5 : (⟨1, ![1024]⟩ : Shape).Idx → EReal)
    (a6 : (⟨2, ![64, 1024]⟩ : Shape).Idx → EReal) (a7 : (⟨2, ![1024, 32]⟩ : Shape).Idx → EReal)
    (a8 : (⟨1, ![1024]⟩ : Shape).Idx → EReal) (a9 : (⟨2, ![1024, 16]⟩ : Shape).Idx → EReal)
    (a10 : (⟨1, ![1024]⟩ : Shape).Idx → EReal) (a11 : (⟨2, ![512, 1024]⟩ : Shape).Idx → EReal) : Layer where
  gamma := at1 a1
  beta := at1 a2
  win := at2 a3
  cw d k := at3 a4 d 0 k
  cb := at1 a5
  wx := at2 a6
  wdt := at2 a7
  bdt := at1 a8
  alog := at2 a9
  dp := at1 a10
  wout := at2 a11

/-- The layer's result as an array, one sequence per batch member. -/
def result (W : Layer) (a0 : (⟨3, ![4, 2048, 512]⟩ : Shape).Idx → EReal) : (⟨3, ![4, 2048, 512]⟩ : Shape).Idx → EReal :=
  fun i => W.out (fun l d => at3 a0 (i 0).val l d) (i 1).val (i 2).val

end Mamba
-- ==== Proof.HostValues.lean ====
/-
  What the kernel's windows hold: each weight array as the host laid it out, and the input's rows.
-/
module

public import proofs.«01_k».proof.Proof.Args
public import Idealize.ShloMosaic.Lib.StableHlo.ReadAt
public import Idealize.ShloMosaic.Lib.Tactic.WordOmega
public import Idealize.ShloMosaic.Lib.Pipeline.ValueKit

@[expose] public section

set_option maxRecDepth 16384

noncomputable section

namespace Mamba

open Cert.KernelIdeal Cert.KernelIdeal.Gen Idealize.ShloMosaic Idealize.ShloMosaic.TcCoe

variable (m : (ℓ : Loc nD τ sig) → Buf (Elt Ideal) ℓ) (c : Dev nD) (t : Fin cfg0.N)

/-- The layer in the kernel's memory at launch. -/
def kLayer : Layer :=
  layerOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- Batch member `b`'s input sequence in the kernel's memory at launch. -/
def kSeq (b l d : ℕ) : EReal := at3 (n := 4) (k := 2048) (l := 512) (m ((c : Thread nD τ).loc main_arg0)) b l d

/-- The rows' window at call `t` is at sequence `t / 16`, block `t % 16`. -/
theorem index0 : ∀ t : Fin cfg0.N, win0_0.index t = ![t.val / 16, t.val % 16, 0] :=
  (by decide +kernel : ∀ t : Fin grid0.N, _)

/-- Window 1 stays at its array's one block. -/
theorem index1 : ∀ t : Fin cfg0.N, win0_1.index t = ![0, 0] :=
  (by decide +kernel : ∀ t : Fin grid0.N, _)

/-- Window 1's block is the whole array. -/
theorem iblk1 : iblk m c 1 t = V m c main_v10 := by
  blk_ext! [iblk, index1 t]

/-- Window 2 stays at its array's one block. -/
theorem index2 : ∀ t : Fin cfg0.N, win0_2.index t = ![0, 0] :=
  (by decide +kernel : ∀ t : Fin grid0.N, _)

/-- Window 2's block is the whole array. -/
theorem iblk2 : iblk m c 2 t = V m c main_v11 := by
  blk_ext! [iblk, index2 t]

/-- Window 3 stays at its array's one block. -/
theorem index3 : ∀ t : Fin cfg0.N, win0_3.index t = ![0, 0] :=
  (by decide +kernel : ∀ t : Fin grid0.N, _)

/-- Window 3's block is the whole array. -/
theorem iblk3 : iblk m c 3 t = V m c main_v1 := by
  blk_ext! [iblk, index3 t]

/-- Window 4 stays at its array's one block. -/
theorem index4 : ∀ t : Fin cfg0.N, win0_4.index t = ![0, 0] :=
  (by decide +kernel : ∀ t : Fin grid0.N, _)

/-- Window 4's block is the whole array. -/
theorem iblk4 : iblk m c 4 t = V m c main_v9 := by
  blk_ext! [iblk, index4 t]

/-- Window 5 stays at its array's one block. -/
theorem index5 : ∀ t : Fin cfg0.N, win0_5.index t = ![0, 0] :=
  (by decide +kernel : ∀ t : Fin grid0.N, _)

/-- Window 5's block is the whole array. -/
theorem iblk5 : iblk m c 5 t = V m c main_v12 := by
  blk_ext! [iblk, index5 t]

/-- Window 6 stays at its array's one block. -/
theorem index6 : ∀ t : Fin cfg0.N, win0_6.index t = ![0, 0] :=
  (by decide +kernel : ∀ t : Fin grid0.N, _)

/-- Window 6's block is the whole array. -/
theorem iblk6 : iblk m c 6 t = V m c main_v2 := by
  blk_ext! [iblk, index6 t]

/-- Window 7 stays at its array's one block. -/
theorem index7 : ∀ t : Fin cfg0.N, win0_7.index t = ![0, 0] :=
  (by decide +kernel : ∀ t : Fin grid0.N, _)

/-- Window 7's block is the whole array. -/
theorem iblk7 : iblk m c 7 t = V m c main_v3 := by
  blk_ext! [iblk, index7 t]

/-- Window 8 stays at its array's one block. -/
theorem index8 : ∀ t : Fin cfg0.N, win0_8.index t = ![0, 0] :=
  (by decide +kernel : ∀ t : Fin grid0.N, _)

/-- Window 8's block is the whole array. -/
theorem iblk8 : iblk m c 8 t = V m c main_v13 := by
  blk_ext! [iblk, index8 t]

/-- Window 9 stays at its array's one block. -/
theorem index9 : ∀ t : Fin cfg0.N, win0_9.index t = ![0, 0] :=
  (by decide +kernel : ∀ t : Fin grid0.N, _)

/-- Window 9's block is the whole array. -/
theorem iblk9 : iblk m c 9 t = V m c main_v7 := by
  blk_ext! [iblk, index9 t]

/-- Window 10 stays at its array's one block. -/
theorem index10 : ∀ t : Fin cfg0.N, win0_10.index t = ![0, 0] :=
  (by decide +kernel : ∀ t : Fin grid0.N, _)

/-- Window 10's block is the whole array. -/
theorem iblk10 : iblk m c 10 t = V m c main_v14 := by
  blk_ext! [iblk, index10 t]

/-- Window 11 stays at its array's one block. -/
theorem index11 : ∀ t : Fin cfg0.N, win0_11.index t = ![0, 0] :=
  (by decide +kernel : ∀ t : Fin grid0.N, _)

/-- Window 11's block is the whole array. -/
theorem iblk11 : iblk m c 11 t = V m c main_v4 := by
  blk_ext! [iblk, index11 t]

/-- Window 12 stays at its array's one block. -/
theorem index12 : ∀ t : Fin cfg0.N, win0_12.index t = ![0, 0] :=
  (by decide +kernel : ∀ t : Fin grid0.N, _)

/-- Window 12's block is the whole array. -/
theorem iblk12 : iblk m c 12 t = V m c main_v23 := by
  blk_ext! [iblk, index12 t]

/-- The reshaped layernorm scale. -/
theorem host_gamma (d : Fin 512) : V m c main_v10 (ix2 0 d) = (kLayer m c).gamma d := by
  show _ = at1 _ d.val
  rw [at1_of_lt _ _ d.isLt]
  unfold V
  after_reads_at

/-- The reshaped layernorm shift. -/
theorem host_beta (d : Fin 512) : V m c main_v11 (ix2 0 d) = (kLayer m c).beta d := by
  show _ = at1 _ d.val
  rw [at1_of_lt _ _ d.isLt]
  unfold V
  after_reads_at

/-- The reshaped convolution bias. -/
theorem host_cb (d : Fin 1024) : V m c main_v12 (ix2 0 d) = (kLayer m c).cb d := by
  show _ = at1 _ d.val
  rw [at1_of_lt _ _ d.isLt]
  unfold V
  after_reads_at

/-- The reshaped bias of the time step. -/
theorem host_bdt (d : Fin 1024) : V m c main_v13 (ix2 0 d) = (kLayer m c).bdt d := by
  show _ = at1 _ d.val
  rw [at1_of_lt _ _ d.isLt]
  unfold V
  after_reads_at

/-- The reshaped skip weights. -/
theorem host_dp (d : Fin 1024) : V m c main_v14 (ix2 0 d) = (kLayer m c).dp d := by
  show _ = at1 _ d.val
  rw [at1_of_lt _ _ d.isLt]
  unfold V
  after_reads_at

/-- The transposed input projection; its cast changes nothing. -/
theorem host_win (i : Fin 512) (j : Fin 2048) : V m c main_v1 (ix2 i j) = (kLayer m c).win j i := by
  show _ = at2 _ j.val i.val
  rw [at2_of_lt _ _ _ j.isLt i.isLt]
  unfold V
  after_reads_at

/-- The transposed second projection. -/
theorem host_wx (i : Fin 1024) (j : Fin 64) : V m c main_v2 (ix2 i j) = (kLayer m c).wx j i := by
  show _ = at2 _ j.val i.val
  rw [at2_of_lt _ _ _ j.isLt i.isLt]
  unfold V
  after_reads_at

/-- The transposed projection of the time step. -/
theorem host_wdt (i : Fin 32) (j : Fin 1024) : V m c main_v3 (ix2 i j) = (kLayer m c).wdt j i := by
  show _ = at2 _ j.val i.val
  rw [at2_of_lt _ _ _ j.isLt i.isLt]
  unfold V
  after_reads_at

/-- The transposed output projection. -/
theorem host_wout (i : Fin 1024) (j : Fin 512) : V m c main_v4 (ix2 i j) = (kLayer m c).wout j i := by
  show _ = at2 _ j.val i.val
  rw [at2_of_lt _ _ _ j.isLt i.isLt]
  unfold V
  after_reads_at

/-- The transposed taps. -/
theorem host_cw (k : Fin 4) (d : Fin 1024) : V m c main_v9 (ix2 k d) = (kLayer m c).cw d k := by
  show _ = at3 _ d.val 0 k.val
  rw [at3_of_lt _ _ _ _ d.isLt (by norm_num) k.isLt]
  unfold V
  after_reads_at

/-- The transposed decay rates. -/
theorem host_an (s : Fin 16) (d : Fin 1024) :
    V m c main_v7 (ix2 s d) = -(Ideal.exp ((kLayer m c).alog d s)) := by
  have e : (kLayer m c).alog d s = at2 (n := 1024) (k := 16) (m ((c : Thread nD τ).loc main_arg9)) d.val s.val := rfl
  rw [e, at2_of_lt _ _ _ d.isLt s.isLt]
  unfold V
  after_reads_at

/-- The host's floor division by sixteen, as it is written: the quotient, less one where the signs differ and a
    remainder is left. -/
def floorDiv16 (a : BitVec 32) : BitVec 32 :=
  Scalar.select
    (IntOp.andi
      (IntOp.cmpi .ne (if a = 0 then (0 : BitVec 32) else if a.msb = true then -1 else 1)
        (if (16#32 : BitVec 32) = 0 then (0 : BitVec 32) else if (16#32 : BitVec 32).msb = true then -1 else 1))
      (IntOp.cmpi .ne (IntOp.remsi .host a 16#32) 0#32))
    (IntOp.subi (IntOp.divsi .host a 16#32) 1#32)
    (IntOp.divsi .host a 16#32)

/-- On the words below 2048 the floor division by sixteen is the quotient. -/
theorem floorDiv16_small : ∀ j : Fin 2048, floorDiv16 (BitVec.ofNat 32 j.val) = BitVec.ofNat 32 (j.val / 16) := by
  decide +kernel

/-- Compared with a step. -/
theorem word_pick (j : Fin 2048) (t : Fin 128) :
    IntOp.cmpi .eq (floorDiv16 (BitVec.ofNat 32 j.val)) (BitVec.ofNat 32 t.val) =
      if j.val / 16 = t.val then 1#1 else 0#1 := by
  rw [floorDiv16_small]
  have h1 : j.val / 16 < 128 := by omega
  generalize j.val / 16 = q at h1 ⊢
  have h2 := t.isLt
  generalize t.val = p at h2 ⊢
  word_omega

/-- The selection matrix: one where column `j` belongs to step `t`. -/
theorem host_pick (t : Fin 128) (j : Fin 2048) :
    V m c main_v23 (ix2 t j) = if j.val / 16 = t.val then (1 : EReal) else 0 := by
  unfold V
  after_reads_at
  refine (congrArg (FloatOps.uitofp (F := Ideal) .f32) (word_pick j t)).trans ?_
  split
  · show (((1#1 : BitVec 1).toNat : ℝ) : EReal) = 1
    simp
  · show (((0#1 : BitVec 1).toNat : ℝ) : EReal) = 0
    simp

/-- The rows' block at call `t`: 128 rows of one sequence. -/
theorem iblk_rows (a : Fin 128) (d : Fin 512) :
    iblk m c 0 t (ix3 0 a d) = kSeq m c (t.val / 16) (128 * (t.val % 16) + a) d := by
  have hN : t.val < 64 := lt_of_lt_of_eq t.isLt N_0
  unfold kSeq
  rw [at3_of_lt _ _ _ _ (by omega) (by omega) d.isLt]
  blk_simp [iblk, index0 t]
  rw [V_main_arg0]
  congr 1
  blk_ext [index0 t]

end Mamba
-- ==== Proof.Grid.lean ====
/-
  Every grid point's loads hold its batch member's rows, so every point stores the layer's rows: the kernel's result.
-/
module

public import proofs.«01_k».proof.Proof.HostValues
public import proofs.«01_k».proof.Proof.Gen.KernelIdeal.Value

@[expose] public section

set_option maxRecDepth 16384

noncomputable section

namespace Mamba

open Cert.KernelIdeal Cert.KernelIdeal.Gen Idealize.ShloMosaic Idealize.ShloMosaic.TcCoe

variable (m : (ℓ : Loc nD τ sig) → Buf (Elt Ideal) ℓ) (c : Dev nD) (t : Fin cfg0.N)

/-- Row `k` of the taps, at a channel. -/
theorem tap_at (x : Vec Ideal S4x1024 .f32) (k : Fin 4)
    (hk : ∀ a, (![k.val, 0] : Fin 2 → ℕ) a + S1x1024.size a ≤ S4x1024.size a) (d : Fin 1024) :
    tap x k.val hk (ix2 0 d) = x (ix2 k d) := by
  show x ((Rect.unit (s := S4x1024) ![k.val, 0] S1x1024.size hk).emb (ix2 0 d)) = _
  congr 1
  funext a
  apply Fin.ext
  rw [ValueKit.rect_emb_unit_val]
  fin_cases a <;> simp [ix2]

/-- Loads from thirteen arrays hold what the arrays hold. -/
theorem holds_mk {W : Layer} {x : ℕ → ℕ → EReal} {l0 : ℕ}
    (x0 : Vec Ideal S1x128x512 .f32) (x1 : Vec Ideal S1x512 .f32) (x2 : Vec Ideal S1x512 .f32)
    (x3 : Vec Ideal S512x2048 .bf16) (x4 : Vec Ideal S4x1024 .f32) (x5 : Vec Ideal S1x1024 .f32)
    (x6 : Vec Ideal S1024x64 .f32) (x7 : Vec Ideal S32x1024 .f32) (x8 : Vec Ideal S1x1024 .f32)
    (x9 : Vec Ideal S16x1024 .f32) (x10 : Vec Ideal S1x1024 .f32) (x11 : Vec Ideal S1024x512 .f32)
    (x12 : Vec Ideal S128x2048 .f32) (tail : Vec Ideal S3x1024 .f32) (h : Vec Ideal S16x1024 .f32)
    (h0 : ∀ (a : Fin 128) (d : Fin 512), x0 (ix3 0 a d) = x (l0 + a) d)
    (h1 : ∀ d : Fin 512, x1 (ix2 0 d) = W.gamma d)
    (h2 : ∀ d : Fin 512, x2 (ix2 0 d) = W.beta d)
    (h3 : ∀ (d : Fin 512) (e : Fin 2048), x3 (ix2 d e) = W.win e d)
    (h4 : ∀ (k : Fin 4) (d : Fin 1024), x4 (ix2 k d) = W.cw d k)
    (h5 : ∀ d : Fin 1024, x5 (ix2 0 d) = W.cb d)
    (h6 : ∀ (d : Fin 1024) (e : Fin 64), x6 (ix2 d e) = W.wx e d)
    (h7 : ∀ (r : Fin 32) (d : Fin 1024), x7 (ix2 r d) = W.wdt d r)
    (h8 : ∀ d : Fin 1024, x8 (ix2 0 d) = W.bdt d)
    (h9 : ∀ (s : Fin 16) (d : Fin 1024), x9 (ix2 s d) = -(Ideal.exp (W.alog d s)))
    (h10 : ∀ d : Fin 1024, x10 (ix2 0 d) = W.dp d)
    (h11 : ∀ (d : Fin 1024) (o : Fin 512), x11 (ix2 d o) = W.wout o d)
    (h12 : ∀ (a : Fin 128) (j : Fin 2048), x12 (ix2 a j) = if j.val / 16 = a.val then 1 else 0)
    (ht : ∀ (i : Fin 3) (d : Fin 1024), tail (ix2 i d) = W.padded x (l0 + i) d)
    (hh : ∀ (s : Fin 16) (d : Fin 1024), h (ix2 s d) = W.state x l0 s d) :
    Holds (mkLoads x0 x1 x2 x3 x4 x5 x6 x7 x8 x9 x10 x11 x12 tail h) W x l0 :=
  { rows := h0
    gamma := h1
    beta := h2
    win := h3
    tail := ht
    cb := h5
    w0 := fun d => (tap_at x4 0 _ d).trans (h4 0 d)
    w1 := fun d => (tap_at x4 1 _ d).trans (h4 1 d)
    w2 := fun d => (tap_at x4 2 _ d).trans (h4 2 d)
    w3 := fun d => (tap_at x4 3 _ d).trans (h4 3 d)
    wx := h6
    wdt := h7
    bdt := h8
    an := h9
    dp := h10
    wout := h11
    pick := h12
    h := hh }

/-- A grid point's loads, given that the three rows before it and the state before it are the layer's. -/
theorem holds_pt (tail : Vec Ideal S3x1024 .f32) (h : Vec Ideal S16x1024 .f32)
    (ht : ∀ (i : Fin 3) (d : Fin 1024), tail (ix2 i d) =
      (kLayer m c).padded (kSeq m c (t.val / 16)) (128 * (t.val % 16) + i) d)
    (hh : ∀ (s : Fin 16) (d : Fin 1024), h (ix2 s d) =
      (kLayer m c).state (kSeq m c (t.val / 16)) (128 * (t.val % 16)) s d) :
    Holds (ptLoads m c t tail h) (kLayer m c) (kSeq m c (t.val / 16)) (128 * (t.val % 16)) := by
  unfold ptLoads
  refine holds_mk _ _ _ _ _ _ _ _ _ _ _ _ _ _ _ (fun a d => iblk_rows m c t a d) ?_ ?_ ?_ ?_ ?_ ?_ ?_ ?_ ?_ ?_ ?_ ?_ ht hh
  · rw [iblk1]; exact host_gamma m c
  · rw [iblk2]; exact host_beta m c
  · rw [iblk3]; exact host_win m c
  · rw [iblk4]; exact host_cw m c
  · rw [iblk5]; exact host_cb m c
  · rw [iblk6]; exact host_wx m c
  · rw [iblk7]; exact host_wdt m c
  · rw [iblk8]; exact host_bdt m c
  · rw [iblk9]; exact host_an m c
  · rw [iblk10]; exact host_dp m c
  · rw [iblk11]; exact host_wout m c
  · rw [iblk12]; exact host_pick m c

/-- What a point leaves is the layer's: its output rows, the last three rows of its convolution's input, its state. -/
structure Leaves (n : ℕ) (p : Vec Ideal S1x128x512 .f32 × Vec Ideal S8x1024 .f32 × Vec Ideal S16x1024 .f32) : Prop where
  rows : ∀ (a : Fin 128) (o : Fin 512), p.1 (ix3 0 a o) =
    (kLayer m c).out (kSeq m c (n / 16)) (128 * (n % 16) + a) o
  tail : ∀ (i : Fin 3) (d : Fin 1024), View.ld p.2.1 tailRect (ix2 i d) =
    (kLayer m c).padded (kSeq m c (n / 16)) (128 * (n % 16) + 128 + i) d
  state : ∀ (s : Fin 16) (d : Fin 1024), p.2.2 (ix2 s d) =
    (kLayer m c).state (kSeq m c (n / 16)) (128 * (n % 16) + 128) s d

/-- If the call's loads hold the layer's values, what it leaves does too. -/
theorem leaves_of (tail : Vec Ideal S3x1024 .f32) (h : Vec Ideal S16x1024 .f32)
    (p : Vec Ideal S1x128x512 .f32 × Vec Ideal S8x1024 .f32 × Vec Ideal S16x1024 .f32)
    (H : Holds (ptLoads m c t tail h) (kLayer m c) (kSeq m c (t.val / 16)) (128 * (t.val % 16)))
    (e : p.1 = (ptLoads m c t tail h).rows scM0_2.view scM0_3.view ∧
      View.ld p.2.1 tailRect = (ptLoads m c t tail h).newTail ∧
      p.2.2 = (ptLoads m c t tail h).state scM0_2.view 128 le_rfl) : Leaves m c t.val p where
  rows a o := (congrFun e.1 _).trans (rows_at H _ _ a o)
  tail i d := (congrFun e.2.1 _).trans (newTail_at H i d)
  state s d := (congrFun e.2.2 _).trans (state_at H _ 128 le_rfl s d)

/-- Every point leaves the layer's values. -/
theorem leaves (n : ℕ) (hn : n < cfg0.N) : Leaves m c n (outsAt0 m c n hn) := by
  induction n using Nat.strong_induction_on with
  | _ n ih =>
    by_cases h0 : n % 16 = 0
    · refine leaves_of m c ⟨n, hn⟩ _ _ _ (holds_pt m c ⟨n, hn⟩ _ _ ?_ ?_) (call_first m c ⟨n, hn⟩ h0)
      · intro i d
        have e : (View.ld (k0_pay2 (F := Ideal)) tailRect : Vec Ideal S3x1024 .f32) (ix2 i d) = 0 := by
          show k0_pay2 (F := Ideal) (tailRect.emb (ix2 i d)) = 0
          generalize tailRect.emb (ix2 i d) = y
          obtain ⟨a, b, rfl⟩ : ∃ (a : Fin 8) (b : Fin 1024), y = ix2 a b := ⟨y 0, y 1, by funext a; fin_cases a <;> rfl⟩
          pointwise [k0_pay2]
        rw [e]
        unfold Layer.padded
        rw [if_pos (by show 128 * (n % 16) + i.val < 3; omega)]
      · intro s d
        have e : k0_pay3 (F := Ideal) (ix2 s d) = 0 := by pointwise [k0_pay3]
        rw [e]
        show 0 = (kLayer m c).state _ (128 * (n % 16)) s d
        rw [h0]
        rfl
    · have hp := ih (n - 1) (by omega) (Nat.lt_of_le_of_lt (Nat.sub_le _ _) hn)
      have e1 : (n - 1) / 16 = n / 16 := by omega
      have e2 : 128 * ((n - 1) % 16) + 128 = 128 * (n % 16) := by omega
      refine leaves_of m c ⟨n, hn⟩ _ _ _ (holds_pt m c ⟨n, hn⟩ _ _ ?_ ?_) (call_next m c ⟨n, hn⟩ h0 _ rfl)
      · intro i d
        have := hp.tail i d
        rw [e1, e2] at this
        exact this
      · intro s d
        have := hp.state s d
        rw [e1, e2] at this
        exact this

/-- The kernel's result array is the layer's result. -/
theorem kernel_result : Cert.KernelIdeal.Value.G13 m c = result (kLayer m c) (m ((c : Thread nD τ).loc main_arg0)) := by
  funext i
  have h0 : (i 0).val < 4 := (i 0).isLt
  have h1 : (i 1).val < 2048 := (i 1).isLt
  have h2 : (i 2).val < 512 := (i 2).isLt
  have hp : Cert.KernelIdeal.Value.pt13Of i = 16 * (i 0).val + (i 1).val / 128 := by
    show 16 * ((i 0).val / 1 - 0) + 1 * ((i 1).val / 128 - 0) + 1 * ((i 2).val / 512 - 0) = _
    omega
  have hN : Cert.KernelIdeal.Value.pt13Of i < cfg0.N := by
    have : cfg0.N = 64 := N_0
    omega
  unfold Cert.KernelIdeal.Value.G13
  rw [dif_pos hN, ← Cert.KernelIdeal.Value.outsAt0_sweep m c _ hN]
  have hl : Cert.KernelIdeal.Value.loc13Of i = ix3 0 (⟨(i 1).val % 128, by omega⟩ : Fin 128) (⟨(i 2).val, h2⟩ : Fin 512) := by
    funext a
    apply Fin.ext
    fin_cases a
    · show (i 0).val % 1 = 0; omega
    · rfl
    · show (i 2).val % 512 = (i 2).val; omega
  rw [hl, (leaves m c _ hN).rows]
  show (kLayer m c).out _ _ _ = (kLayer m c).out (kSeq m c (i 0).val) (i 1).val (i 2).val
  rw [hp]
  have e1 : (16 * (i 0).val + (i 1).val / 128) / 16 = (i 0).val := by omega
  have e2 : 128 * ((16 * (i 0).val + (i 1).val / 128) % 16) + (i 1).val % 128 = (i 1).val := by omega
  rw [e1]
  show (kLayer m c).out _ (128 * ((16 * (i 0).val + (i 1).val / 128) % 16) + (i 1).val % 128) (i 2).val = _
  rw [e2]

end Mamba
-- ==== Proof.RefLayer.lean ====
/-
  The reference's arguments read as one layer and four input sequences.
-/
module

public import proofs.«01_k».proof.Proof.Args
public import proofs.«01_k».proof.Proof.Gen.ReferenceIdeal.Run
public import Idealize.ShloMosaic.Lib.StableHlo.ReadAt

@[expose] public section

noncomputable section

namespace Mamba.Ref

open Cert.ReferenceIdeal Cert.ReferenceIdeal.Gen Idealize.ShloMosaic Idealize.ShloMosaic.TcCoe Idealize.ShloMosaic.StableHlo

variable (V : Valuation τ sig (Elt Ideal))

/-- The layer in the reference's memory. -/
def rLayer : Layer :=
  layerOf (V (Proc.devRef .tc main_arg1)) (V (Proc.devRef .tc main_arg2)) (V (Proc.devRef .tc main_arg3))
    (V (Proc.devRef .tc main_arg4)) (V (Proc.devRef .tc main_arg5)) (V (Proc.devRef .tc main_arg6))
    (V (Proc.devRef .tc main_arg7)) (V (Proc.devRef .tc main_arg8)) (V (Proc.devRef .tc main_arg9))
    (V (Proc.devRef .tc main_arg10)) (V (Proc.devRef .tc main_arg11))

/-- Batch member `b`'s input sequence in the reference's memory. -/
def rSeq (b l d : ℕ) : EReal := at3 (n := 4) (k := 2048) (l := 512) (V (Proc.devRef .tc main_arg0)) b l d

/-- The layernorm scale. -/
theorem gamma_at (d : Fin 512) : (rLayer V).gamma d = V (Proc.devRef .tc main_arg1) (ix1 d) := at1_of_lt _ _ d.isLt
/-- The layernorm shift. -/
theorem beta_at (d : Fin 512) : (rLayer V).beta d = V (Proc.devRef .tc main_arg2) (ix1 d) := at1_of_lt _ _ d.isLt
/-- The input projection. -/
theorem win_at (e : Fin 2048) (d : Fin 512) : (rLayer V).win e d = V (Proc.devRef .tc main_arg3) (ix2 e d) :=
  at2_of_lt _ _ _ e.isLt d.isLt
/-- The taps. -/
theorem cw_at (d : Fin 1024) (k : Fin 4) : (rLayer V).cw d k = V (Proc.devRef .tc main_arg4) (ix3 d 0 k) :=
  at3_of_lt _ _ _ _ d.isLt Nat.zero_lt_one k.isLt
/-- The convolution bias. -/
theorem cb_at (d : Fin 1024) : (rLayer V).cb d = V (Proc.devRef .tc main_arg5) (ix1 d) := at1_of_lt _ _ d.isLt
/-- The second projection. -/
theorem wx_at (e : Fin 64) (d : Fin 1024) : (rLayer V).wx e d = V (Proc.devRef .tc main_arg6) (ix2 e d) :=
  at2_of_lt _ _ _ e.isLt d.isLt
/-- The projection of the time step. -/
theorem wdt_at (d : Fin 1024) (r : Fin 32) : (rLayer V).wdt d r = V (Proc.devRef .tc main_arg7) (ix2 d r) :=
  at2_of_lt _ _ _ d.isLt r.isLt
/-- The bias of the time step. -/
theorem bdt_at (d : Fin 1024) : (rLayer V).bdt d = V (Proc.devRef .tc main_arg8) (ix1 d) := at1_of_lt _ _ d.isLt
/-- The logarithms of the decay rates. -/
theorem alog_at (d : Fin 1024) (s : Fin 16) : (rLayer V).alog d s = V (Proc.devRef .tc main_arg9) (ix2 d s) :=
  at2_of_lt _ _ _ d.isLt s.isLt
/-- The skip weights. -/
theorem dp_at (d : Fin 1024) : (rLayer V).dp d = V (Proc.devRef .tc main_arg10) (ix1 d) := at1_of_lt _ _ d.isLt
/-- The output projection. -/
theorem wout_at (o : Fin 512) (d : Fin 1024) : (rLayer V).wout o d = V (Proc.devRef .tc main_arg11) (ix2 o d) :=
  at2_of_lt _ _ _ o.isLt d.isLt
/-- The input sequences. -/
theorem seq_at (b : Fin 4) (l : Fin 2048) (d : Fin 512) : rSeq V b l d = V (Proc.devRef .tc main_arg0) (ix3 b l d) :=
  at3_of_lt _ _ _ _ b.isLt l.isLt d.isLt

end Mamba.Ref
-- ==== Proof.RefPre.lean ====
/-
  The reference's stretches before its loop, each read entry by entry over any memory.
-/
module

public import proofs.«01_k».proof.Proof.RefLayer

@[expose] public section

set_option maxRecDepth 16384

noncomputable section

namespace Mamba.Ref

open Cert.ReferenceIdeal Cert.ReferenceIdeal.Gen Cert.ReferenceIdeal.Value Idealize.ShloMosaic Idealize.ShloMosaic.TcCoe Idealize.ShloMosaic.StableHlo

variable (V : Valuation τ sig (Elt Ideal)) {W : Layer} {x : ℕ → ℕ → ℕ → EReal}

/-- The first projection of the normalized rows. -/
theorem pre_xz (b : Fin 4) (l : Fin 2048) (e : Fin 2048) :
    after hostOps0 V (Proc.devRef .tc main_v24) (ix3 b l e) = (rLayer V).xz (rSeq V b l) e := by
  unfold Layer.xz Layer.norm variance mean
  simp only [gamma_at, beta_at, win_at, seq_at]
  after_reads_at

/-- The half of the projection that enters the convolution. -/
theorem pre_in (b : Fin 4) (l : Fin 2048) (d : Fin 1024) :
    after hostOps0 V (Proc.devRef .tc main_v25) (ix3 b l d) = (rLayer V).xz (rSeq V b l) d := by
  have e := pre_xz V b l ⟨d, by omega⟩
  refine Eq.trans ?_ e
  after_reads_at

/-- The half of the projection that gates. -/
theorem pre_gate (b : Fin 4) (l : Fin 2048) (d : Fin 1024) :
    after hostOps0 V (Proc.devRef .tc main_v26) (ix3 b l d) = (rLayer V).gate (rSeq V b) l d := by
  have e := pre_xz V b l ⟨1024 + d, by omega⟩
  refine Eq.trans ?_ e
  after_reads_at

/-- The value three rows before the sequence are filled with. -/
theorem pre_zero (i : S_.Idx) : after hostOps0 V (Proc.devRef .tc main_c) i = 0#32 := by
  after_reads_at

/-- Three zero rows, then the sequence. -/
theorem pre_pad (b : Fin 4) (j : Fin 2051) (d : Fin 1024) (hc : ∀ i : S_.Idx, V (Proc.devRef .tc main_c) i = 0#32)
    (hx : ∀ (l : Fin 2048) (d : Fin 1024), V (Proc.devRef .tc main_v25) (ix3 b l d) = W.xz (x b l) d) :
    after hostOps0_1 V (Proc.devRef .tc main_v27) (ix3 b j d) = W.padded (x b) j d := by
  unfold Layer.padded
  after_reads_at
  have hj := j.isLt
  by_cases h : j.val < 3
  · rw [if_pos h, dif_neg (by omega), hc]
    show (((0#32 : BitVec 32).toInt : ℝ) : EReal) = 0
    simp
  · rw [if_neg h, dif_pos (by omega), hx]

/-- The four shifted products and the shift. -/
theorem pre_conv (b : Fin 4) (l : Fin 2048) (d : Fin 1024)
    (hp : ∀ (j : Fin 2051) (d : Fin 1024), V (Proc.devRef .tc main_v27) (ix3 b j d) = (rLayer V).padded (x b) j d) :
    after hostOps0_2 V (Proc.devRef .tc main_v59) (ix3 b l d) = (rLayer V).conv (x b) l d := by
  have e : (rLayer V).conv (x b) l d = (rLayer V).padded (x b) l d * (rLayer V).cw d 0 + (rLayer V).padded (x b) (1 + l) d * (rLayer V).cw d 1
      + (rLayer V).padded (x b) (2 + l) d * (rLayer V).cw d 2 + (rLayer V).padded (x b) (3 + l) d * (rLayer V).cw d 3 + (rLayer V).cb d := by
    rw [add_comm _ ((rLayer V).cb d)]
    unfold Layer.conv
    simp only [add_assoc]
  rw [e]
  have h0 := cw_at V d 0
  have h1 := cw_at V d 1
  have h2 := cw_at V d 2
  have h3 := cw_at V d 3
  simp only [Fin.val_zero, Fin.val_one, Fin.val_two, show ((3 : Fin 4).val) = 3 from rfl] at h0 h1 h2 h3
  rw [h0, h1, h2, h3, cb_at]
  after_reads_at
  simp only [hp]

/-- The silu after the convolution. -/
theorem pre_silu (b : Fin 4) (l : Fin 2048) (d : Fin 1024) :
    after hostOps0_3 V (Proc.devRef .tc main_v60) (ix3 b l d) = silu (V (Proc.devRef .tc main_v59) (ix3 b l d)) := by
  unfold silu
  after_reads_at

/-- The second projection, where the channels are given. -/
theorem pre_proj (b : Fin 4) (l : Fin 2048) (e : Fin 64)
    (hx : ∀ d : Fin 1024, V (Proc.devRef .tc main_v60) (ix3 b l d) = (rLayer V).chan (x b) l d) :
    after hostOps0_4 V (Proc.devRef .tc main_v61) (ix3 b l e) = (rLayer V).proj (x b) l e := by
  unfold Layer.proj
  simp only [wx_at]
  after_reads_at
  simp only [hx]

/-- Its columns 32 … 47: the input vector. -/
theorem pre_B (b : Fin 4) (l : Fin 2048) (s : Fin 16)
    (hx : ∀ d : Fin 1024, V (Proc.devRef .tc main_v60) (ix3 b l d) = (rLayer V).chan (x b) l d) :
    after hostOps0_4 V (Proc.devRef .tc main_v63) (ix3 b l s) = (rLayer V).proj (x b) l (32 + s) := by
  refine Eq.trans ?_ (pre_proj V b l ⟨32 + s, by omega⟩ hx)
  after_reads_at

/-- Its columns 48 … 63: the output vector. -/
theorem pre_C (b : Fin 4) (l : Fin 2048) (s : Fin 16)
    (hx : ∀ d : Fin 1024, V (Proc.devRef .tc main_v60) (ix3 b l d) = (rLayer V).chan (x b) l d) :
    after hostOps0_4 V (Proc.devRef .tc main_v64) (ix3 b l s) = (rLayer V).proj (x b) l (48 + s) := by
  refine Eq.trans ?_ (pre_proj V b l ⟨48 + s, by omega⟩ hx)
  after_reads_at

/-- The time step before softplus. -/
theorem pre_dtl (b : Fin 4) (l : Fin 2048) (d : Fin 1024)
    (hx : ∀ d : Fin 1024, V (Proc.devRef .tc main_v60) (ix3 b l d) = (rLayer V).chan (x b) l d) :
    after hostOps0_4 V (Proc.devRef .tc main_v68) (ix3 b l d) =
      (∑ r : Fin 32, (rLayer V).proj (x b) l r * (rLayer V).wdt d r) + (rLayer V).bdt d := by
  have e : ∀ r : Fin 32, (rLayer V).proj (x b) l r =
      ∑ d : Fin 1024, (rLayer V).chan (x b) l d * V (Proc.devRef .tc main_arg6) (ix2 (⟨r.val, by omega⟩ : Fin 64) d) :=
    fun r => Finset.sum_congr rfl fun d _ => congrArg _ (wx_at V (⟨r.val, by omega⟩ : Fin 64) d)
  simp only [wdt_at, bdt_at, e]
  after_reads_at
  simp only [hx]

/-- Softplus of the time step. -/
theorem pre_soft (b : Fin 4) (l : Fin 2048) (d : Fin 1024) :
    after hostOps0_5 V (Proc.devRef .tc main_v69) (ix3 b l d) = softplus (V (Proc.devRef .tc main_v68) (ix3 b l d)) := by
  unfold softplus
  after_reads_at
  rw [if_neg (fun h => h rfl)]
  rfl

/-- The loop's operands: the arrays with the time axis first, the decay rates, the zero state. -/
theorem pre_dt (b : Fin 4) (l : Fin 2048) (d : Fin 1024) :
    after hostOps0_6 V (Proc.devRef .tc main_v78_0) (ix3 l b d) = V (Proc.devRef .tc main_v69) (ix3 b l d) := by
  after_reads_at
  rw [id]
  pointwise

/-- The input vectors, time first. -/
theorem pre_Bt (b : Fin 4) (l : Fin 2048) (s : Fin 16) :
    after hostOps0_6 V (Proc.devRef .tc main_v78_1) (ix3 l b s) = V (Proc.devRef .tc main_v63) (ix3 b l s) := by
  after_reads_at
  rw [id]
  pointwise

/-- The output vectors, time first. -/
theorem pre_Ct (b : Fin 4) (l : Fin 2048) (s : Fin 16) :
    after hostOps0_6 V (Proc.devRef .tc main_v78_2) (ix3 l b s) = V (Proc.devRef .tc main_v64) (ix3 b l s) := by
  after_reads_at
  rw [id]
  pointwise

/-- The channels, time first. -/
theorem pre_xt (b : Fin 4) (l : Fin 2048) (d : Fin 1024) :
    after hostOps0_6 V (Proc.devRef .tc main_v78_3) (ix3 l b d) = V (Proc.devRef .tc main_v60) (ix3 b l d) := by
  after_reads_at
  rw [id]
  pointwise

/-- The decay rates. -/
theorem pre_A (d : Fin 1024) (s : Fin 16) :
    after hostOps0_6 V (Proc.devRef .tc main_v78_4) (ix2 d s) = -(Ideal.exp ((rLayer V).alog d s)) := by
  rw [alog_at]
  after_reads_at
  rw [id]
  pointwise

/-- The state before the loop is zero. -/
theorem pre_h (b : Fin 4) (d : Fin 1024) (s : Fin 16) :
    after hostOps0_6 V (Proc.devRef .tc main_v78_6) (ix3 b d s) = (0 : EReal) := by
  after_reads_at
  rw [id]
  pointwise

end Mamba.Ref
-- ==== Proof.RefStep.lean ====
/-
  One trip of the reference's loop, entry by entry: the new state, and the row of the output it writes.
-/
module

public import proofs.«01_k».proof.Proof.RefPre
public import Idealize.ShloMosaic.Lib.DynamicIndex
public import Idealize.ShloMosaic.Lib.WordCmp

@[expose] public section

set_option maxRecDepth 16384

noncomputable section

namespace Mamba.Ref

open Cert.ReferenceIdeal Cert.ReferenceIdeal.Gen Cert.ReferenceIdeal.Value Idealize.ShloMosaic Idealize.ShloMosaic.TcCoe Idealize.ShloMosaic.StableHlo

variable (V : Valuation τ sig (Elt Ideal)) (k : Fin 2048)

/-- The starts of the trip's slices. -/
def starts : Fin 3 → ℤ := fun a => (((![V (Proc.devRef .tc main_v78_5), constantI S_ 32 0#32, constantI S_ 32 0#32] :
  Fin 3 → (⟨S_, .i32⟩ : BufTy).Contents (Elt Ideal))) a (Shape.Idx.first h_S_)).toInt

/-- In trip `k` the slices start at row `k`. -/
theorem starts_at (hk : V (Proc.devRef .tc main_v78_5) = fun _ => BitVec.ofNat 32 k.val) (a : Fin 3) :
    starts V a = ((![k.val, 0, 0] : Fin 3 → ℕ) a : ℤ) := by
  have hk' := k.isLt
  unfold starts
  rw [hk]
  fin_cases a
  · exact toInt_ofNat_of_lt (by omega)
  · rfl
  · rfl

/-- Row `k` lies in an array over the channels. -/
theorem fits_big (k : Fin 2048) : S2048x4x1024.Slices ![k.val, 0, 0] S1x4x1024 := by
  have hk := k.isLt
  exact ⟨rfl, fun a => by fin_cases a <;> simp [S2048x4x1024, S1x4x1024] <;> omega⟩

/-- Row `k` lies in an array over the states. -/
theorem fits_small (k : Fin 2048) : S2048x4x16.Slices ![k.val, 0, 0] S1x4x16 := by
  have hk := k.isLt
  exact ⟨rfl, fun a => by fin_cases a <;> simp [S2048x4x16, S1x4x16] <;> omega⟩

/-- Row `k` of an array over the channels. -/
theorem row_big (hk : V (Proc.devRef .tc main_v78_5) = fun _ => BitVec.ofNat 32 k.val) (y : FVec Ideal S2048x4x1024 .f32)
    (b : Fin 4) (d : Fin 1024) :
    shapeCast S4x1024 (Host.dynamicSlice S1x4x1024 y (starts V) sliceFits_S2048x4x1024_S1x4x1024)
      shapeCasts_S1x4x1024_S4x1024 (ix2 b d) = y (ix3 k b d) := by
  rw [Host.dynamicSlice_eq_extractStridedSlice S1x4x1024 y (starts V) ![k.val, 0, 0] _ (fits_big k) (starts_at V k hk)]
  pointwise

/-- Row `k` of an array over the states. -/
theorem row_small (hk : V (Proc.devRef .tc main_v78_5) = fun _ => BitVec.ofNat 32 k.val) (y : FVec Ideal S2048x4x16 .f32)
    (b : Fin 4) (s : Fin 16) :
    shapeCast S4x16 (Host.dynamicSlice S1x4x16 y (starts V) sliceFits_S2048x4x16_S1x4x16)
      shapeCasts_S1x4x16_S4x16 (ix2 b s) = y (ix3 k b s) := by
  rw [Host.dynamicSlice_eq_extractStridedSlice S1x4x16 y (starts V) ![k.val, 0, 0] _ (fits_small k) (starts_at V k hk)]
  pointwise

/-- The trip's new state as a function of the rows it reads. -/
def newState (h : FVec Ideal S4x1024x16 .f32) (dt : FVec Ideal S4x1024 .f32) (A : FVec Ideal S1024x16 .f32)
    (B : FVec Ideal S4x16 .f32) (xc : FVec Ideal S4x1024 .f32) : FVec Ideal S4x1024x16 .f32 :=
  addf (mulf h (Host.exp (mulf (broadcastInDim S4x1024x16 ![0, 1, 2] bcast_S4x1024x1_S4x1024x16_0_1_2 (broadcastInDim S4x1024x1 ![0, 1] bcast_S4x1024_S4x1024x1_0_1 dt)) (broadcastInDim S4x1024x16 ![0, 1, 2] bcast_S1x1024x16_S4x1024x16_0_1_2 (broadcastInDim S1x1024x16 ![1, 2] bcast_S1024x16_S1x1024x16_1_2 A))))) (mulf (mulf (broadcastInDim S4x1024x16 ![0, 1, 2] bcast_S4x1024x1_S4x1024x16_0_1_2 (broadcastInDim S4x1024x1 ![0, 1] bcast_S4x1024_S4x1024x1_0_1 dt)) (broadcastInDim S4x1024x16 ![0, 1, 2] bcast_S4x1x16_S4x1024x16_0_1_2 (broadcastInDim S4x1x16 ![0, 2] bcast_S4x16_S4x1x16_0_2 B))) (broadcastInDim S4x1024x16 ![0, 1, 2] bcast_S4x1024x1_S4x1024x16_0_1_2 (broadcastInDim S4x1024x1 ![0, 1] bcast_S4x1024_S4x1024x1_0_1 xc)))

/-- The new state at an entry, from the rows. -/
theorem newState_at (h : FVec Ideal S4x1024x16 .f32) (dt : FVec Ideal S4x1024 .f32) (A : FVec Ideal S1024x16 .f32)
    (B : FVec Ideal S4x16 .f32) (xc : FVec Ideal S4x1024 .f32) (b : Fin 4) (d : Fin 1024) (s : Fin 16) :
    newState h dt A B xc (ix3 b d s) =
      h (ix3 b d s) * Ideal.exp (dt (ix2 b d) * A (ix2 d s)) + dt (ix2 b d) * B (ix2 b s) * xc (ix2 b d) := by
  pointwise [newState]

/-- The trip's new state is that function of the rows the trip slices out. -/
theorem state_eq : res_main_while0b_v106 V = newState (V (Proc.devRef .tc main_v78_6))
    (shapeCast S4x1024 (Host.dynamicSlice S1x4x1024 (V (Proc.devRef .tc main_v78_0)) (starts V) sliceFits_S2048x4x1024_S1x4x1024) shapeCasts_S1x4x1024_S4x1024)
    (V (Proc.devRef .tc main_v78_4))
    (shapeCast S4x16 (Host.dynamicSlice S1x4x16 (V (Proc.devRef .tc main_v78_1)) (starts V) sliceFits_S2048x4x16_S1x4x16) shapeCasts_S1x4x16_S4x16)
    (shapeCast S4x1024 (Host.dynamicSlice S1x4x1024 (V (Proc.devRef .tc main_v78_3)) (starts V) sliceFits_S2048x4x1024_S1x4x1024) shapeCasts_S1x4x1024_S4x1024) := rfl

/-- The new state at an entry. -/
theorem state_at (hk : V (Proc.devRef .tc main_v78_5) = fun _ => BitVec.ofNat 32 k.val) (h dt A B xc : EReal)
    (b : Fin 4) (d : Fin 1024) (s : Fin 16)
    (h6 : V (Proc.devRef .tc main_v78_6) (ix3 b d s) = h) (h0 : V (Proc.devRef .tc main_v78_0) (ix3 k b d) = dt)
    (h4 : V (Proc.devRef .tc main_v78_4) (ix2 d s) = A) (h1 : V (Proc.devRef .tc main_v78_1) (ix3 k b s) = B)
    (h3 : V (Proc.devRef .tc main_v78_3) (ix3 k b d) = xc) :
    res_main_while0b_v106 V (ix3 b d s) = h * Ideal.exp (dt * A) + dt * B * xc := by
  rw [state_eq, newState_at]
  rw [row_big V k hk, row_small V k hk, row_big V k hk, h6, h0, h4, h1, h3]

/-- The trip's output array as a function of the array before it, the new state and the row it reads. -/
def newRows (ys : FVec Ideal S2048x4x1024 .f32) (h : FVec Ideal S4x1024x16 .f32) (C : FVec Ideal S4x16 .f32) :
    FVec Ideal S2048x4x1024 .f32 :=
  Host.dynamicUpdateSlice ys (broadcastInDim S1x4x1024 ![1, 2] bcast_S4x1024_S1x4x1024_1_2 (Host.dotGeneral dot_S4x1024x16_S4x16_S4x1024_2_1_1_n_0_0 none h C)) (starts V) updateFits_S2048x4x1024_S1x4x1024

/-- The trip's output array is that function of what the trip reads. -/
theorem rows_eq : afterL bodyI V (Proc.devRef .tc main_v78_7) = newRows V (V (Proc.devRef .tc main_v78_7)) (res_main_while0b_v106 V)
    (shapeCast S4x16 (Host.dynamicSlice S1x4x16 (V (Proc.devRef .tc main_v78_2)) (starts V) sliceFits_S2048x4x16_S1x4x16) shapeCasts_S1x4x16_S4x16) :=
  trip_main_v78_7 V

/-- The new output array at an entry: row `k` is written, the others stay. -/
theorem newRows_at (hk : V (Proc.devRef .tc main_v78_5) = fun _ => BitVec.ofNat 32 k.val) (ys : FVec Ideal S2048x4x1024 .f32)
    (h : FVec Ideal S4x1024x16 .f32) (C : FVec Ideal S4x16 .f32) (l : Fin 2048) (b : Fin 4) (d : Fin 1024) :
    newRows V ys h C (ix3 l b d) = if l = k then ∑ s : Fin 16, h (ix3 b d s) * C (ix2 b s) else ys (ix3 l b d) := by
  unfold newRows
  rw [WordCmp.dynamicUpdateSlice_eq_update ys _ (starts V) _ ![k.val, 0, 0] (fits_big k) (starts_at V k hk)]
  pointwise
  by_cases hl : l = k
  · subst hl
    rw [if_pos rfl, dif_pos ⟨le_rfl, Nat.lt_succ_self _⟩]
  · have hl' : l.val ≠ k.val := fun h => hl (Fin.ext h)
    rw [if_neg hl, dif_neg (by omega)]

/-- The output row the trip writes is the product of the new state with the row it reads; the other rows stay. -/
theorem rows_at (hk : V (Proc.devRef .tc main_v78_5) = fun _ => BitVec.ofNat 32 k.val) (l : Fin 2048) (b : Fin 4) (d : Fin 1024)
    (h C : ℕ → EReal) (hh : ∀ s : Fin 16, res_main_while0b_v106 V (ix3 b d s) = h s)
    (hC : ∀ s : Fin 16, V (Proc.devRef .tc main_v78_2) (ix3 k b s) = C s) :
    afterL bodyI V (Proc.devRef .tc main_v78_7) (ix3 l b d) =
      if l = k then ∑ s : Fin 16, h s * C s else V (Proc.devRef .tc main_v78_7) (ix3 l b d) := by
  rw [rows_eq, newRows_at V k hk]
  simp only [row_small V k hk, hh, hC]

end Mamba.Ref
-- ==== Proof.RefRun.lean ====
/-
  The reference's run: what its memory holds when the loop is entered, before every trip, and at the end.
-/
module

public import proofs.«01_k».proof.Proof.RefStep

@[expose] public section

set_option maxRecDepth 16384

noncomputable section

namespace Mamba.Ref

open Cert.ReferenceIdeal Cert.ReferenceIdeal.Gen Cert.ReferenceIdeal.Value Idealize.ShloMosaic Idealize.ShloMosaic.TcCoe Idealize.ShloMosaic.StableHlo

/-- The references of the arguments. -/
abbrev argRefs : List (Ref sig .tc) := [main_arg0, main_arg1, main_arg2, main_arg3, main_arg4, main_arg5, main_arg6, main_arg7, main_arg8, main_arg9, main_arg10, main_arg11]

/-- The layer depends on the arguments' buffers only. -/
theorem rLayer_congr {V V' : Valuation τ sig (Elt Ideal)}
    (h : ∀ r ∈ argRefs, V' (Proc.devRef .tc r) = V (Proc.devRef .tc r)) : rLayer V' = rLayer V := by
  unfold rLayer
  rw [h main_arg1 (by decide), h main_arg2 (by decide), h main_arg3 (by decide), h main_arg4 (by decide), h main_arg5 (by decide),
    h main_arg6 (by decide), h main_arg7 (by decide), h main_arg8 (by decide), h main_arg9 (by decide), h main_arg10 (by decide),
    h main_arg11 (by decide)]

section
variable (V : Valuation τ sig (Elt Ideal))

/-- Memory after the first stretch of operations before the loop. -/
def E1 : Valuation τ sig (Elt Ideal) := after hostOps0 V
/-- Memory after the first two stretches before the loop. -/
def E2 : Valuation τ sig (Elt Ideal) := after hostOps0_1 (E1 V)
/-- Memory after the first three stretches before the loop. -/
def E3 : Valuation τ sig (Elt Ideal) := after hostOps0_2 (E2 V)
/-- Memory after the first four stretches before the loop. -/
def E4 : Valuation τ sig (Elt Ideal) := after hostOps0_3 (E3 V)
/-- Memory after the first five stretches before the loop. -/
def E5 : Valuation τ sig (Elt Ideal) := after hostOps0_4 (E4 V)
/-- Memory after the first six stretches before the loop. -/
def E6 : Valuation τ sig (Elt Ideal) := after hostOps0_5 (E5 V)
/-- Memory after all seven stretches before the loop. -/
def E7 : Valuation τ sig (Elt Ideal) := after hostOps0_6 (E6 V)

/-- Stretch 1 leaves what it does not write. -/
theorem keep1 (r : Ref sig .tc) (h : r ∉ hostOps0_W) : E1 V (Proc.devRef .tc r) = V (Proc.devRef .tc r) :=
  after_of_writes_sub hostOps0 V hostOps0_writes h
/-- Stretch 2 leaves what it does not write. -/
theorem keep2 (r : Ref sig .tc) (h : r ∉ hostOps0_1_W) : E2 V (Proc.devRef .tc r) = E1 V (Proc.devRef .tc r) :=
  after_of_writes_sub hostOps0_1 (E1 V) hostOps0_1_writes h
/-- Stretch 3 leaves what it does not write. -/
theorem keep3 (r : Ref sig .tc) (h : r ∉ hostOps0_2_W) : E3 V (Proc.devRef .tc r) = E2 V (Proc.devRef .tc r) :=
  after_of_writes_sub hostOps0_2 (E2 V) hostOps0_2_writes h
/-- Stretch 4 leaves what it does not write. -/
theorem keep4 (r : Ref sig .tc) (h : r ∉ hostOps0_3_W) : E4 V (Proc.devRef .tc r) = E3 V (Proc.devRef .tc r) :=
  after_of_writes_sub hostOps0_3 (E3 V) hostOps0_3_writes h
/-- Stretch 5 leaves what it does not write. -/
theorem keep5 (r : Ref sig .tc) (h : r ∉ hostOps0_4_W) : E5 V (Proc.devRef .tc r) = E4 V (Proc.devRef .tc r) :=
  after_of_writes_sub hostOps0_4 (E4 V) hostOps0_4_writes h
/-- Stretch 6 leaves what it does not write. -/
theorem keep6 (r : Ref sig .tc) (h : r ∉ hostOps0_5_W) : E6 V (Proc.devRef .tc r) = E5 V (Proc.devRef .tc r) :=
  after_of_writes_sub hostOps0_5 (E5 V) hostOps0_5_writes h
/-- Stretch 7 leaves what it does not write. -/
theorem keep7 (r : Ref sig .tc) (h : r ∉ hostOps0_6_W) : E7 V (Proc.devRef .tc r) = E6 V (Proc.devRef .tc r) :=
  after_of_writes_sub hostOps0_6 (E6 V) hostOps0_6_writes h

/-- The layer is the same after stretch 1. -/
theorem layer1 : rLayer (E1 V) = rLayer V :=
  rLayer_congr fun r h => keep1 V r ((by decide +kernel : ∀ r ∈ argRefs, r ∉ hostOps0_W) r h)
/-- The layer is the same after stretch 2. -/
theorem layer2 : rLayer (E2 V) = rLayer V :=
  (rLayer_congr fun r h => keep2 V r ((by decide +kernel : ∀ r ∈ argRefs, r ∉ hostOps0_1_W) r h)).trans (layer1 V)
/-- The layer is the same after stretch 3. -/
theorem layer3 : rLayer (E3 V) = rLayer V :=
  (rLayer_congr fun r h => keep3 V r ((by decide +kernel : ∀ r ∈ argRefs, r ∉ hostOps0_2_W) r h)).trans (layer2 V)
/-- The layer is the same after stretch 4. -/
theorem layer4 : rLayer (E4 V) = rLayer V :=
  (rLayer_congr fun r h => keep4 V r ((by decide +kernel : ∀ r ∈ argRefs, r ∉ hostOps0_3_W) r h)).trans (layer3 V)
/-- The layer is the same after stretch 5. -/
theorem layer5 : rLayer (E5 V) = rLayer V :=
  (rLayer_congr fun r h => keep5 V r ((by decide +kernel : ∀ r ∈ argRefs, r ∉ hostOps0_4_W) r h)).trans (layer4 V)
/-- The layer is the same after stretch 6. -/
theorem layer6 : rLayer (E6 V) = rLayer V :=
  (rLayer_congr fun r h => keep6 V r ((by decide +kernel : ∀ r ∈ argRefs, r ∉ hostOps0_5_W) r h)).trans (layer5 V)
/-- The layer is the same after stretch 7. -/
theorem layer7 : rLayer (E7 V) = rLayer V :=
  (rLayer_congr fun r h => keep7 V r ((by decide +kernel : ∀ r ∈ argRefs, r ∉ hostOps0_6_W) r h)).trans (layer6 V)

/-- The convolution's padded input. -/
theorem padded_at (b : Fin 4) (j : Fin 2051) (d : Fin 1024) :
    E2 V (Proc.devRef .tc main_v27) (ix3 b j d) = (rLayer V).padded (rSeq V b) j d :=
  pre_pad (W := rLayer V) (x := fun b => rSeq V b) (E1 V) b j d (pre_zero V) (fun l d => pre_in V b l d)

/-- The channels that enter the recurrence. -/
theorem chan_at (b : Fin 4) (l : Fin 2048) (d : Fin 1024) :
    E4 V (Proc.devRef .tc main_v60) (ix3 b l d) = (rLayer V).chan (rSeq V b) l d := by
  have h := pre_conv (x := fun b => rSeq V b) (E2 V) b l d (fun j d => by rw [layer2]; exact padded_at V b j d)
  rw [layer2] at h
  exact (pre_silu (E3 V) b l d).trans (congrArg silu h)

/-- The same, with the layer read from the memory of that moment. -/
theorem chan_at' (b : Fin 4) (l : Fin 2048) (d : Fin 1024) :
    E4 V (Proc.devRef .tc main_v60) (ix3 b l d) = (rLayer (E4 V)).chan (rSeq V b) l d := by
  rw [layer4]; exact chan_at V b l d

/-- The time steps. -/
theorem dt_at (b : Fin 4) (l : Fin 2048) (d : Fin 1024) :
    E6 V (Proc.devRef .tc main_v69) (ix3 b l d) = (rLayer V).dt (rSeq V b) l d := by
  have h := pre_dtl (x := fun b => rSeq V b) (E4 V) b l d (chan_at' V b l)
  rw [layer4] at h
  exact (pre_soft (E5 V) b l d).trans (congrArg softplus h)

/-- What memory holds where the loop is entered, and what the loop leaves alone. -/
structure Fixed (W : Layer) (x : ℕ → ℕ → ℕ → EReal) (E : Valuation τ sig (Elt Ideal)) : Prop where
  layer : rLayer E = W
  gate : ∀ (b : Fin 4) (l : Fin 2048) (d : Fin 1024), E (Proc.devRef .tc main_v26) (ix3 b l d) = W.gate (x b) l d
  chan : ∀ (b : Fin 4) (l : Fin 2048) (d : Fin 1024), E (Proc.devRef .tc main_v60) (ix3 b l d) = W.chan (x b) l d
  dt : ∀ (l : Fin 2048) (b : Fin 4) (d : Fin 1024), E (Proc.devRef .tc main_v78_0) (ix3 l b d) = W.dt (x b) l d
  B : ∀ (l : Fin 2048) (b : Fin 4) (s : Fin 16), E (Proc.devRef .tc main_v78_1) (ix3 l b s) = W.proj (x b) l (32 + s)
  C : ∀ (l : Fin 2048) (b : Fin 4) (s : Fin 16), E (Proc.devRef .tc main_v78_2) (ix3 l b s) = W.proj (x b) l (48 + s)
  xc : ∀ (l : Fin 2048) (b : Fin 4) (d : Fin 1024), E (Proc.devRef .tc main_v78_3) (ix3 l b d) = W.chan (x b) l d
  A : ∀ (d : Fin 1024) (s : Fin 16), E (Proc.devRef .tc main_v78_4) (ix2 d s) = -(Ideal.exp (W.alog d s))

/-- Memory where the loop is entered. -/
theorem fixed_entry : Fixed (rLayer V) (fun b => rSeq V b) (E7 V) where
  layer := layer7 V
  gate b l d := by
    rw [keep7 V main_v26 (by decide +kernel), keep6 V main_v26 (by decide +kernel), keep5 V main_v26 (by decide +kernel), keep4 V main_v26 (by decide +kernel), keep3 V main_v26 (by decide +kernel), keep2 V main_v26 (by decide +kernel)]
    exact pre_gate V b l d
  chan b l d := by
    rw [keep7 V main_v60 (by decide +kernel), keep6 V main_v60 (by decide +kernel), keep5 V main_v60 (by decide +kernel)]
    exact chan_at V b l d
  dt l b d := (pre_dt (E6 V) b l d).trans (dt_at V b l d)
  B l b s := by
    have h := pre_B (x := fun b => rSeq V b) (E4 V) b l s (chan_at' V b l)
    rw [layer4] at h
    refine (pre_Bt (E6 V) b l s).trans ?_
    rw [keep6 V main_v63 (by decide +kernel)]
    exact h
  C l b s := by
    have h := pre_C (x := fun b => rSeq V b) (E4 V) b l s (chan_at' V b l)
    rw [layer4] at h
    refine (pre_Ct (E6 V) b l s).trans ?_
    rw [keep6 V main_v64 (by decide +kernel)]
    exact h
  xc l b d := by
    refine (pre_xt (E6 V) b l d).trans ?_
    rw [keep6 V main_v60 (by decide +kernel), keep5 V main_v60 (by decide +kernel)]
    exact chan_at V b l d
  A d s := by
    refine (pre_A (E6 V) d s).trans ?_
    rw [layer6]

end

/-- The references no trip writes and the rest of the program reads. -/
abbrev keptRefs : List (Ref sig .tc) := argRefs ++ [main_v26, main_v60, main_v78_0, main_v78_1, main_v78_2, main_v78_3, main_v78_4]

/-- A trip, the condition's operations included, leaves them alone. -/
theorem trip_keep (X : Valuation τ sig (Elt Ideal)) (r : Ref sig .tc) (h : r ∈ keptRefs) :
    afterL bodyI (after condOps X) (Proc.devRef .tc r) = X (Proc.devRef .tc r) := by
  simp only [afterL_cons, afterL_nil]
  rw [after_of_writes_sub while0Ops0_6 _ while0Ops0_6_writes ((by decide +kernel : ∀ r ∈ keptRefs, r ∉ while0Ops0_6_W) r h),
    after_of_writes_sub while0Ops0_5 _ while0Ops0_5_writes ((by decide +kernel : ∀ r ∈ keptRefs, r ∉ while0Ops0_5_W) r h),
    after_of_writes_sub while0Ops0_4 _ while0Ops0_4_writes ((by decide +kernel : ∀ r ∈ keptRefs, r ∉ while0Ops0_4_W) r h),
    after_of_writes_sub while0Ops0_3 _ while0Ops0_3_writes ((by decide +kernel : ∀ r ∈ keptRefs, r ∉ while0Ops0_3_W) r h),
    after_of_writes_sub while0Ops0_2 _ while0Ops0_2_writes ((by decide +kernel : ∀ r ∈ keptRefs, r ∉ while0Ops0_2_W) r h),
    after_of_writes_sub while0Ops0_1 _ while0Ops0_1_writes ((by decide +kernel : ∀ r ∈ keptRefs, r ∉ while0Ops0_1_W) r h),
    after_of_writes_sub while0Ops0 _ while0Ops0_writes ((by decide +kernel : ∀ r ∈ keptRefs, r ∉ while0Ops0_W) r h),
    after_of_writes_sub condOps _ condOps_writes ((by decide +kernel : ∀ r ∈ keptRefs, r ∉ condOps_W) r h)]

/-- The condition's operations leave every reference but their own alone. -/
theorem cond_keep (X : Valuation τ sig (Elt Ideal)) (r : Ref sig .tc) (h : r ∉ condOps_W) :
    after condOps X (Proc.devRef .tc r) = X (Proc.devRef .tc r) := after_of_writes_sub condOps X condOps_writes h

/-- What holds of a memory holds of one that agrees with it on the kept references. -/
theorem Fixed.congr {W : Layer} {x : ℕ → ℕ → ℕ → EReal} {E E' : Valuation τ sig (Elt Ideal)} (h : Fixed W x E)
    (k : ∀ r ∈ keptRefs, E' (Proc.devRef .tc r) = E (Proc.devRef .tc r)) : Fixed W x E' where
  layer := (rLayer_congr fun r hr => k r (List.mem_append_left _ hr)).trans h.layer
  gate b l d := by rw [k main_v26 (by decide)]; exact h.gate b l d
  chan b l d := by rw [k main_v60 (by decide)]; exact h.chan b l d
  dt l b d := by rw [k main_v78_0 (by decide)]; exact h.dt l b d
  B l b s := by rw [k main_v78_1 (by decide)]; exact h.B l b s
  C l b s := by rw [k main_v78_2 (by decide)]; exact h.C l b s
  xc l b d := by rw [k main_v78_3 (by decide)]; exact h.xc l b d
  A d s := by rw [k main_v78_4 (by decide)]; exact h.A d s

/-- What memory holds before trip `k`: the state before step `k`, and the output rows already written. -/
structure Inv (W : Layer) (x : ℕ → ℕ → ℕ → EReal) (k : ℕ) (E : Valuation τ sig (Elt Ideal)) : Prop where
  fixed : Fixed W x E
  ctr : E (Proc.devRef .tc main_v78_5) = fun _ => BitVec.ofNat 32 k
  state : ∀ (b : Fin 4) (d : Fin 1024) (s : Fin 16), E (Proc.devRef .tc main_v78_6) (ix3 b d s) = W.state (x b) k s d
  rows : ∀ (l : Fin 2048) (b : Fin 4) (d : Fin 1024), l.val < k → E (Proc.devRef .tc main_v78_7) (ix3 l b d) = W.read (x b) l d

/-- One trip. -/
theorem Inv.next {W : Layer} {x : ℕ → ℕ → ℕ → EReal} {k : ℕ} {X : Valuation τ sig (Elt Ideal)} (hk : k < 2048)
    (h : Inv W x k X) (hctr : afterL bodyI (after condOps X) (Proc.devRef .tc main_v78_5) = fun _ => BitVec.ofNat 32 (k + 1)) :
    Inv W x (k + 1) (afterL bodyI (after condOps X)) := by
  have hf : Fixed W x (after condOps X) :=
    h.fixed.congr fun r hr => cond_keep X r ((by decide +kernel : ∀ r ∈ keptRefs, r ∉ condOps_W) r hr)
  have hc : after condOps X (Proc.devRef .tc main_v78_5) = fun _ => BitVec.ofNat 32 ((⟨k, hk⟩ : Fin 2048) : Fin 2048).val :=
    (cond_keep X main_v78_5 (by decide +kernel)).trans h.ctr
  have hs : ∀ (b : Fin 4) (d : Fin 1024) (s : Fin 16),
      res_main_while0b_v106 (after condOps X) (ix3 b d s) = W.state (x b) (k + 1) s d := by
    intro b d s
    refine (state_at (after condOps X) ⟨k, hk⟩ hc _ _ _ _ _ b d s
      ((congrFun (cond_keep X main_v78_6 (by decide +kernel)) _).trans (h.state b d s))
      (hf.dt ⟨k, hk⟩ b d) (hf.A d s) (hf.B ⟨k, hk⟩ b s) (hf.xc ⟨k, hk⟩ b d)).trans ?_
    show _ = W.state (x b) k s d * Ideal.exp (W.dt (x b) k d * -(Ideal.exp (W.alog d s)))
      + W.proj (x b) k (32 + s) * (W.dt (x b) k d * W.chan (x b) k d)
    congr 1
    rw [mul_comm (W.dt (x b) k d) (W.proj (x b) k (32 + s)), mul_assoc]
  refine ⟨h.fixed.congr fun r hr => trip_keep X r hr, hctr, ?_, ?_⟩
  · intro b d s
    rw [trip_main_v78_6]
    exact hs b d s
  · intro l b d hl
    refine (rows_at (after condOps X) ⟨k, hk⟩ hc l b d (fun s => W.state (x b) (k + 1) s d) (fun s => W.proj (x b) k (48 + s))
      (hs b d) (hf.C ⟨k, hk⟩ b)).trans ?_
    by_cases e : l = ⟨k, hk⟩
    · rw [if_pos e, e]
      rfl
    · rw [if_neg e]
      have hne : l.val ≠ k := fun h => e (Fin.ext h)
      exact (congrFun (cond_keep X main_v78_7 (by decide +kernel)) _).trans (h.rows l b d (by omega))

variable (m : (ℓ : Loc nD τ sig) → Buf (Elt Ideal) ℓ) (c : Dev nD)

/-- The loop's counter before trip `k` is `k`. -/
theorem ctr_at (k : ℕ) : atK m k c (Proc.devRef .tc main_v78_5) = fun _ => BitVec.ofNat 32 k := by
  rw [atK_ctr]
  funext _
  unfold Scf.iv
  simp

/-- Before every trip. -/
theorem inv_at (k : ℕ) (hk : k ≤ 2048) :
    Inv (rLayer (launchContents m c)) (fun b => rSeq (launchContents m c) b) k (atK m k c) := by
  induction k with
  | zero => exact ⟨fixed_entry _, ctr_at m c 0, fun b d s => pre_h _ b d s, fun l b d h => absurd h (Nat.not_lt_zero _)⟩
  | succ k ih => exact (ih (by omega)).next (by omega) (ctr_at m c (k + 1))

/-- The stretches after the loop: the skip connection, the gate, the last projection. -/
theorem post_at (V : Valuation τ sig (Elt Ideal)) (b : Fin 4) (l : Fin 2048) (o : Fin 512) (r g ch : ℕ → EReal)
    (hr : ∀ d : Fin 1024, V (Proc.devRef .tc main_v78_7) (ix3 l b d) = r d)
    (hg : ∀ d : Fin 1024, V (Proc.devRef .tc main_v26) (ix3 b l d) = g d)
    (hx : ∀ d : Fin 1024, V (Proc.devRef .tc main_v60) (ix3 b l d) = ch d) :
    afterL postI V (Proc.devRef .tc main_v86) (ix3 b l o) =
      ∑ d : Fin 1024, (r d + ch d * (rLayer V).dp d) * silu (g d) * (rLayer V).wout o d := by
  unfold silu
  simp only [dp_at, wout_at]
  simp only [afterL_cons, afterL_nil]
  after_reads_at
  simp only [hr, hg, hx]

/-- The reference's result. -/
theorem result_at (b : Fin 4) (l : Fin 2048) (o : Fin 512) :
    finalContents condOps preI bodyI postI 2048 m c (Proc.devRef .tc main_v86) (ix3 b l o) =
      (rLayer (launchContents m c)).out (rSeq (launchContents m c) b) l o := by
  have h := inv_at m c 2048 le_rfl
  have hf : Fixed _ _ (after condOps (atK m 2048 c)) :=
    h.fixed.congr fun r hr => cond_keep _ r ((by decide +kernel : ∀ r ∈ keptRefs, r ∉ condOps_W) r hr)
  refine (post_at (after condOps (atK m 2048 c)) b l o
    (fun d => (rLayer (launchContents m c)).read (rSeq (launchContents m c) b) l d)
    (fun d => (rLayer (launchContents m c)).gate (rSeq (launchContents m c) b) l d)
    (fun d => (rLayer (launchContents m c)).chan (rSeq (launchContents m c) b) l d)
    (fun d => (congrFun (cond_keep _ main_v78_7 (by decide +kernel)) _).trans (h.rows l b d l.isLt))
    (fun d => hf.gate b l d) (fun d => hf.chan b l d)).trans ?_
  rw [hf.layer]
  rfl

/-- The reference's result array is the layer's result. -/
theorem reference_result : finalContents condOps preI bodyI postI 2048 m c (Proc.devRef .tc main_v86) =
    result (rLayer (launchContents m c)) (m ((c : Thread nD τ).loc main_arg0)) := by
  funext i
  obtain ⟨b, l, o, rfl⟩ : ∃ (b : Fin 4) (l : Fin 2048) (o : Fin 512), i = ix3 b l o :=
    ⟨i 0, i 1, i 2, by funext a; fin_cases a <;> rfl⟩
  exact result_at m c b l o

end Mamba.Ref
-- ==== Proof.RefFinal.lean ====
/-
  The reference's run: its result array, its arguments, its counters.
-/
module

public import proofs.«01_k».proof.Proof.RefRun

@[expose] public section

set_option maxRecDepth 16384

noncomputable section

namespace Mamba.Ref

open Cert.ReferenceIdeal Cert.ReferenceIdeal.Gen Cert.ReferenceIdeal.Value Idealize.ShloMosaic Idealize.ShloMosaic.TcCoe Idealize.ShloMosaic.StableHlo

variable (m : (ℓ : Loc nD τ sig) → Buf (Elt Ideal) ℓ) (c : Dev nD)

/-- The references the operations after the loop write. -/
abbrev post7 : List (Ref sig .tc) := [main_v79, main_v80, main_v81, main_v82, main_v83]
/-- The references the second stretch after the loop writes. -/
abbrev post8 : List (Ref sig .tc) := [main_call8_v0, main_call8_v1, main_call8_cst, main_call8_v2, main_call8_v3, main_call8_cst_0, main_call8_v4, main_call8_v5, main_v84]
/-- The references the last stretch writes. -/
abbrev post9 : List (Ref sig .tc) := [main_v85, main_v86]

/-- The first stretch after the loop writes no other reference. -/
theorem post7_writes : (hostOps0_7 : List (HloOp τ sig (Elt Ideal))).Forall fun op => op.writes ⊆ (post7.map (Proc.devRef (τ := τ) .tc)).toFinset :=
  StableHlo.forall_writes_sub_of_map rfl
/-- The second stretch writes no other reference. -/
theorem post8_writes : (hostOps0_8 : List (HloOp τ sig (Elt Ideal))).Forall fun op => op.writes ⊆ (post8.map (Proc.devRef (τ := τ) .tc)).toFinset :=
  StableHlo.forall_writes_sub_of_map rfl
/-- The last stretch writes no other reference. -/
theorem post9_writes : (hostOps0_9 : List (HloOp τ sig (Elt Ideal))).Forall fun op => op.writes ⊆ (post9.map (Proc.devRef (τ := τ) .tc)).toFinset :=
  StableHlo.forall_writes_sub_of_map rfl

/-- An argument's buffer, before every trip. -/
theorem arg_at (r : Ref sig .tc) (h : r ∈ argRefs) (k : ℕ) : atK m k c (Proc.devRef .tc r) = launchContents m c (Proc.devRef .tc r) := by
  induction k with
  | zero =>
    show E7 (launchContents m c) (Proc.devRef .tc r) = _
    rw [keep7 _ r ((by decide +kernel : ∀ r ∈ argRefs, r ∉ hostOps0_6_W) r h), keep6 _ r ((by decide +kernel : ∀ r ∈ argRefs, r ∉ hostOps0_5_W) r h),
      keep5 _ r ((by decide +kernel : ∀ r ∈ argRefs, r ∉ hostOps0_4_W) r h), keep4 _ r ((by decide +kernel : ∀ r ∈ argRefs, r ∉ hostOps0_3_W) r h),
      keep3 _ r ((by decide +kernel : ∀ r ∈ argRefs, r ∉ hostOps0_2_W) r h), keep2 _ r ((by decide +kernel : ∀ r ∈ argRefs, r ∉ hostOps0_1_W) r h),
      keep1 _ r ((by decide +kernel : ∀ r ∈ argRefs, r ∉ hostOps0_W) r h)]
  | succ k ih => exact (trip_keep (atK m k c) r (List.mem_append_left _ h)).trans ih

/-- The arguments end as they began. -/
theorem final_arg (r : Ref sig .tc) (h : r ∈ argRefs) :
    finalContents condOps preI bodyI postI 2048 m c (Proc.devRef .tc r) = m ((c.tc : Thread nD τ).loc r) := by
  show after hostOps0_9 (after hostOps0_8 (after hostOps0_7 (after condOps (atK m 2048 c)))) (Proc.devRef .tc r) = _
  rw [after_of_writes_sub hostOps0_9 _ post9_writes ((by decide +kernel : ∀ r ∈ argRefs, r ∉ post9) r h),
    after_of_writes_sub hostOps0_8 _ post8_writes ((by decide +kernel : ∀ r ∈ argRefs, r ∉ post8) r h),
    after_of_writes_sub hostOps0_7 _ post7_writes ((by decide +kernel : ∀ r ∈ argRefs, r ∉ post7) r h),
    cond_keep _ r ((by decide +kernel : ∀ r ∈ argRefs, r ∉ condOps_W) r h), arg_at m c r h]

/-- Every execution of the reference ends with the layer's result in its result array and its arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v86) = result (rLayer (launchContents m c)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono (fun r h c => ⟨(h c main_v86 rfl).trans (reference_result m c),
      (h c main_arg0 rfl).trans (final_arg m c main_arg0 (by decide)),
      (h c main_arg1 rfl).trans (final_arg m c main_arg1 (by decide)),
      (h c main_arg2 rfl).trans (final_arg m c main_arg2 (by decide)),
      (h c main_arg3 rfl).trans (final_arg m c main_arg3 (by decide)),
      (h c main_arg4 rfl).trans (final_arg m c main_arg4 (by decide)),
      (h c main_arg5 rfl).trans (final_arg m c main_arg5 (by decide)),
      (h c main_arg6 rfl).trans (final_arg m c main_arg6 (by decide)),
      (h c main_arg7 rfl).trans (final_arg m c main_arg7 (by decide)),
      (h c main_arg8 rfl).trans (final_arg m c main_arg8 (by decide)),
      (h c main_arg9 rfl).trans (final_arg m c main_arg9 (by decide)),
      (h c main_arg10 rfl).trans (final_arg m c main_arg10 (by decide)),
      (h c main_arg11 rfl).trans (final_arg m c main_arg11 (by decide))⟩)
    (run_fold m ρ)

end Mamba.Ref
-- ==== Proof.lean ====
/- The certificate's claim, assembled: the three frames, the statement of the one named constant, and the equality of
   the kernel's result with the reference's. The mathematics is in Proof/: Spec.lean says what the layer computes;
   Chunk.lean … Grid.lean read the kernel's result as that layer; RefLayer.lean … RefFinal.lean read the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Grid
public import proofs.«01_k».proof.Proof.RefFinal
public import Idealize.ShloMosaic.Lib.Claim
public import Idealize.ShloMosaic.Adequacy
public import Idealize.ShloMosaic.Init

@[expose] public section

noncomputable section

namespace Cert.Proof

open Idealize.ShloMosaic Idealize.SL.Sem

/-- The printed kernel terminates, leaves its arguments unchanged and every counter at zero. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Mamba.Ref.run m ρ)

/-- The literal log2(e) of the kernel stands for `1 / ln 2`. -/
theorem preserves : Cert.preserves_Kernel_KernelIdeal :=
  IdealRules.named_const.statement Cert.KernelIdeal.κ "log2e" .f32 0x3FB8AA3B#32 (((Real.log 2)⁻¹ : ℝ) : EReal) rfl

/-- The kernel and the reference, run from memories that agree on the arguments, end with equal results: both are the layer's. -/
theorem algebraic : Cert.algebraic_KernelIdeal_ReferenceIdeal := by
  intro m g m' g' _ agree
  refine ⟨fun c => Mamba.result (Mamba.kLayer m c) (m ((c.tc : Thread Cert.KernelIdeal.nD Cert.KernelIdeal.τ).loc Cert.KernelIdeal.main_arg0)), ?_, ?_⟩
  · exact (θ_run Cert.KernelIdeal.defs _ _).mono (fun r h c => ⟨(h c).1.trans (Mamba.kernel_result m c), (h c).2⟩)
      (Cert.KernelIdeal.Value.run (F := Ideal) m g)
  · refine (θ_run Cert.ReferenceIdeal.defs _ _).mono (fun r h c => ⟨(h c).1.trans ?_, (h c).2⟩) (Mamba.Ref.run m' g')
    obtain ⟨h0, h1, h2, h3, h4, h5, h6, h7, h8, h9, h10, h11⟩ := agree c
    have e : Mamba.Ref.rLayer (StableHlo.launchContents m' c) = Mamba.kLayer m c := by
      show Mamba.layerOf (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11)) = _
      rw [h1, h2, h3, h4, h5, h6, h7, h8, h9, h10, h11]
      rfl
    rw [e, h0]

theorem claim : Cert.Claim :=
  ⟨Cert.Kernel.Gen.facts, Cert.KernelIdeal.Gen.facts, Cert.ReferenceIdeal.Gen.facts, frame_p, frame_pi, frame_ri, preserves, algebraic⟩

end Cert.Proof

end
